-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S8x512x512 : Shape := ⟨3, ![8, 512, 512]⟩
abbrev S512x512 : Shape := ⟨2, ![512, 512]⟩
abbrev S4 : Shape := ⟨1, ![4]⟩
abbrev S3 : Shape := ⟨1, ![3]⟩
abbrev S_ : Shape := ⟨0, ![]⟩
abbrev S1024x512 : Shape := ⟨2, ![1024, 512]⟩
abbrev S1x512x512 : Shape := ⟨3, ![1, 512, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S512x4096, .f32⟩
  | .local _ .vmem, ⟨0, _⟩ => ⟨S1024x1024, .bf16⟩
  | .local _ .vmem, ⟨1, _⟩ => ⟨S1024x4096, .bf16⟩
  | .local _ .vmem, ⟨2, _⟩ => ⟨S512x4096, .f32⟩
  | .local _ .vmem, ⟨3, _⟩ => ⟨S8x512x512, .bf16⟩
  | .local _ .vmem, ⟨4, _⟩ => ⟨S512x512, .bf16⟩
  | .local _ .vmem, ⟨5, _⟩ => ⟨S512x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_32 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_29 v2
  let c8_i32_31 : BitVec 32 := 8#32
  let v42 : BitVec 32 := Scalar.muli v41 c8_i32_31
  let v43 : BitVec 32 := Scalar.addi c0_i32_32 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v44 : BitVec 32 := Scalar.muli v5 c4_i32_33
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v46 : BitVec 32 := Scalar.muli v8 c1_i32_34
  let v47 : BitVec 32 := Scalar.addi v45 v46
  v47.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v48 : BitVec 32 := Scalar.muli v2 c8_i32_36
  let v49 : BitVec 32 := Scalar.addi c0_i32_37 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_2 : BitVec 32 := 0#32
  let v12 : BitVec 1 := Scalar.cmpi .eq v5 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .eq v8 c3_i32
  let c1_i32_3 : BitVec 32 := 1#32
  let c0_i32_4 : BitVec 32 := 0#32
  let v14 : BitVec 32 := Scalar.select v13 c1_i32_3 c0_i32_4
  let c0_i32_5 : BitVec 32 := 0#32
  let v15 : BitVec 1 := Scalar.cmpi .eq v8 c0_i32_5
  let c0_i32_6 : BitVec 32 := 0#32
  let c1_i32_7 : BitVec 32 := 1#32
  let v16 : BitVec 32 := Scalar.select v15 c0_i32_6 c1_i32_7
  let v17 : BitVec 32 := Scalar.select v12 v14 v16
  let c4_i32_38 : BitVec 32 := 4#32
  let v50 : BitVec 32 := Scalar.muli v17 c4_i32_38
  let v51 : BitVec 32 := Scalar.addi v49 v50
  let c0_i32_8 : BitVec 32 := 0#32
  let v18 : BitVec 1 := Scalar.cmpi .eq v5 c0_i32_8
  let c3_i32_9 : BitVec 32 := 3#32
  let v19 : BitVec 1 := Scalar.cmpi .eq v8 c3_i32_9
  let c3_i32_11 : BitVec 32 := 3#32
  let c1_i32_10 : BitVec 32 := 1#32
  let v20 : BitVec 32 := Scalar.addi v8 c1_i32_10
  let v21 : BitVec 32 := Scalar.select v19 c3_i32_11 v20
  let c0_i32_12 : BitVec 32 := 0#32
  let v22 : BitVec 1 := Scalar.cmpi .eq v8 c0_i32_12
  let c0_i32_14 : BitVec 32 := 0#32
  let c1_i32_13 : BitVec 32 := 1#32
  let v23 : BitVec 32 := Scalar.subi v8 c1_i32_13
  let v24 : BitVec 32 := Scalar.select v22 c0_i32_14 v23
  let v25 : BitVec 32 := Scalar.select v18 v21 v24
  let c1_i32_39 : BitVec 32 := 1#32
  let v52 : BitVec 32 := Scalar.muli v25 c1_i32_39
  let v53 : BitVec 32 := Scalar.addi v51 v52
  v53.toNat
def k0_dev3 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v54 : BitVec 32 := Scalar.muli v2 c8_i32_41
  let v55 : BitVec 32 := Scalar.addi c0_i32_42 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_15 : BitVec 32 := 0#32
  let v26 : BitVec 1 := Scalar.cmpi .eq v5 c0_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_16 : BitVec 32 := 0#32
  let v27 : BitVec 1 := Scalar.cmpi .eq v8 c0_i32_16
  let c1_i32_17 : BitVec 32 := 1#32
  let c0_i32_18 : BitVec 32 := 0#32
  let v28 : BitVec 32 := Scalar.select v27 c1_i32_17 c0_i32_18
  let c3_i32_19 : BitVec 32 := 3#32
  let v29 : BitVec 1 := Scalar.cmpi .eq v8 c3_i32_19
  let c0_i32_20 : BitVec 32 := 0#32
  let c1_i32_21 : BitVec 32 := 1#32
  let v30 : BitVec 32 := Scalar.select v29 c0_i32_20 c1_i32_21
  let v31 : BitVec 32 := Scalar.select v26 v28 v30
  let c4_i32_43 : BitVec 32 := 4#32
  let v56 : BitVec 32 := Scalar.muli v31 c4_i32_43
  let v57 : BitVec 32 := Scalar.addi v55 v56
  let c0_i32_22 : BitVec 32 := 0#32
  let v32 : BitVec 1 := Scalar.cmpi .eq v5 c0_i32_22
  let c0_i32_23 : BitVec 32 := 0#32
  let v33 : BitVec 1 := Scalar.cmpi .eq v8 c0_i32_23
  let c0_i32_25 : BitVec 32 := 0#32
  let c1_i32_24 : BitVec 32 := 1#32
  let v34 : BitVec 32 := Scalar.subi v8 c1_i32_24
  let v35 : BitVec 32 := Scalar.select v33 c0_i32_25 v34
  let c3_i32_26 : BitVec 32 := 3#32
  let v36 : BitVec 1 := Scalar.cmpi .eq v8 c3_i32_26
  let c3_i32_28 : BitVec 32 := 3#32
  let c1_i32_27 : BitVec 32 := 1#32
  let v37 : BitVec 32 := Scalar.addi v8 c1_i32_27
  let v38 : BitVec 32 := Scalar.select v36 c3_i32_28 v37
  let v39 : BitVec 32 := Scalar.select v32 v35 v38
  let c1_i32_44 : BitVec 32 := 1#32
  let v58 : BitVec 32 := Scalar.muli v39 c1_i32_44
  let v59 : BitVec 32 := Scalar.addi v57 v58
  v59.toNat
def k0_off1 (d0 : Dev nD) : Fin 2 → Nat :=
  let c0 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32 : BitVec 32 := 512#32
  let v60 : BitVec 32 := Scalar.muli v11 c512_i32
  let v61 : Index := Scalar.indexCast v60
  ![0, v61.toNat]
def k0_off2 (d0 : Dev nD) : Fin 2 → Nat :=
  let c0_48 : Index := 0#32
  let c1_i32_46 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v64 : BitVec 32 := Scalar.subi c1_i32_46 v2
  let c512_i32_47 : BitVec 32 := 512#32
  let v65 : BitVec 32 := Scalar.muli v64 c512_i32_47
  let v66 : Index := Scalar.indexCast v65
  ![0, v66.toNat]
def k0_dev4 (d0 : Dev nD) : Nat :=
  let c0_i32_53 : BitVec 32 := 0#32
  let c1_i32_51 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v74 : BitVec 32 := Scalar.subi c1_i32_51 v2
  let c8_i32_52 : BitVec 32 := 8#32
  let v75 : BitVec 32 := Scalar.muli v74 c8_i32_52
  let v76 : BitVec 32 := Scalar.addi c0_i32_53 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v77 : BitVec 32 := Scalar.muli v5 c4_i32_54
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v79 : BitVec 32 := Scalar.muli v8 c1_i32_55
  let v80 : BitVec 32 := Scalar.addi v78 v79
  v80.toNat
def k0_off3 (d0 : Dev nD) : Fin 2 → Nat :=
  let c0_57 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_56 : BitVec 32 := 512#32
  let v81 : BitVec 32 := Scalar.muli v2 c512_i32_56
  let v82 : Index := Scalar.indexCast v81
  ![0, v82.toNat]
def k0_off4 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v97 : Index := Scalar.indexCast v11
  let c0_66 : Index := 0#32
  let c0_67 : Index := 0#32
  ![v97.toNat, 0, 0]
def k0_off5 (d0 : Dev nD) (c0_i32_68 : BitVec 32) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v101 : BitVec 32 := Scalar.subi v11 c0_i32_68
  let c8_i32_69 : BitVec 32 := 8#32
  let c0_i32_70 : BitVec 32 := 0#32
  let v102 : BitVec 1 := Scalar.cmpi .eq c8_i32_69 c0_i32_70
  let c1_i32_71 : BitVec 32 := 1#32
  let v103 : BitVec 32 := Scalar.select v102 c1_i32_71 c8_i32_69
  let v104 : BitVec 32 := Scalar.remsi v101 v103
  let c0_i32_73 : BitVec 32 := 0#32
  let v106 : BitVec 1 := Scalar.cmpi .slt v104 c0_i32_73
  let c0_i32_74 : BitVec 32 := 0#32
  let v107 : BitVec 1 := Scalar.cmpi .slt v103 c0_i32_74
  let v108 : BitVec 1 := Scalar.xori v106 v107
  let c0_i32_72 : BitVec 32 := 0#32
  let v105 : BitVec 1 := Scalar.cmpi .ne v104 c0_i32_72
  let v109 : BitVec 1 := Scalar.andi v108 v105
  let v110 : BitVec 32 := Scalar.addi v104 v103
  let v111 : BitVec 32 := Scalar.select v109 v110 v104
  let c0_i32_123 : BitVec 32 := 0#32
  let c0_i32_124 : BitVec 32 := 0#32
  ![v111.toNat, 0, 0]
def k0_dev5 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v178 : BitVec 32 := Scalar.muli v2 c8_i32_119
  let v179 : BitVec 32 := Scalar.addi c0_i32_120 v178
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_2 : BitVec 32 := 0#32
  let v12 : BitVec 1 := Scalar.cmpi .eq v5 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .eq v8 c3_i32
  let c1_i32_3 : BitVec 32 := 1#32
  let c0_i32_4 : BitVec 32 := 0#32
  let v14 : BitVec 32 := Scalar.select v13 c1_i32_3 c0_i32_4
  let c0_i32_5 : BitVec 32 := 0#32
  let v15 : BitVec 1 := Scalar.cmpi .eq v8 c0_i32_5
  let c0_i32_6 : BitVec 32 := 0#32
  let c1_i32_7 : BitVec 32 := 1#32
  let v16 : BitVec 32 := Scalar.select v15 c0_i32_6 c1_i32_7
  let v17 : BitVec 32 := Scalar.select v12 v14 v16
  let c4_i32_121 : BitVec 32 := 4#32
  let v180 : BitVec 32 := Scalar.muli v17 c4_i32_121
  let v181 : BitVec 32 := Scalar.addi v179 v180
  let c0_i32_8 : BitVec 32 := 0#32
  let v18 : BitVec 1 := Scalar.cmpi .eq v5 c0_i32_8
  let c3_i32_9 : BitVec 32 := 3#32
  let v19 : BitVec 1 := Scalar.cmpi .eq v8 c3_i32_9
  let c3_i32_11 : BitVec 32 := 3#32
  let c1_i32_10 : BitVec 32 := 1#32
  let v20 : BitVec 32 := Scalar.addi v8 c1_i32_10
  let v21 : BitVec 32 := Scalar.select v19 c3_i32_11 v20
  let c0_i32_12 : BitVec 32 := 0#32
  let v22 : BitVec 1 := Scalar.cmpi .eq v8 c0_i32_12
  let c0_i32_14 : BitVec 32 := 0#32
  let c1_i32_13 : BitVec 32 := 1#32
  let v23 : BitVec 32 := Scalar.subi v8 c1_i32_13
  let v24 : BitVec 32 := Scalar.select v22 c0_i32_14 v23
  let v25 : BitVec 32 := Scalar.select v18 v21 v24
  let c1_i32_122 : BitVec 32 := 1#32
  let v182 : BitVec 32 := Scalar.muli v25 c1_i32_122
  let v183 : BitVec 32 := Scalar.addi v181 v182
  v183.toNat
def k0_off6 (d0 : Dev nD) (c0_i32_96 : BitVec 32) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v145 : BitVec 32 := Scalar.addi v11 c0_i32_96
  let c8_i32_97 : BitVec 32 := 8#32
  let c0_i32_98 : BitVec 32 := 0#32
  let v146 : BitVec 1 := Scalar.cmpi .eq c8_i32_97 c0_i32_98
  let c1_i32_99 : BitVec 32 := 1#32
  let v147 : BitVec 32 := Scalar.select v146 c1_i32_99 c8_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c0_i32_133 : BitVec 32 := 0#32
  let c0_i32_134 : BitVec 32 := 0#32
  ![v155.toNat, 0, 0]
def k0_dev6 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v192 : BitVec 32 := Scalar.muli v2 c8_i32_129
  let v193 : BitVec 32 := Scalar.addi c0_i32_130 v192
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_15 : BitVec 32 := 0#32
  let v26 : BitVec 1 := Scalar.cmpi .eq v5 c0_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_16 : BitVec 32 := 0#32
  let v27 : BitVec 1 := Scalar.cmpi .eq v8 c0_i32_16
  let c1_i32_17 : BitVec 32 := 1#32
  let c0_i32_18 : BitVec 32 := 0#32
  let v28 : BitVec 32 := Scalar.select v27 c1_i32_17 c0_i32_18
  let c3_i32_19 : BitVec 32 := 3#32
  let v29 : BitVec 1 := Scalar.cmpi .eq v8 c3_i32_19
  let c0_i32_20 : BitVec 32 := 0#32
  let c1_i32_21 : BitVec 32 := 1#32
  let v30 : BitVec 32 := Scalar.select v29 c0_i32_20 c1_i32_21
  let v31 : BitVec 32 := Scalar.select v26 v28 v30
  let c4_i32_131 : BitVec 32 := 4#32
  let v194 : BitVec 32 := Scalar.muli v31 c4_i32_131
  let v195 : BitVec 32 := Scalar.addi v193 v194
  let c0_i32_22 : BitVec 32 := 0#32
  let v32 : BitVec 1 := Scalar.cmpi .eq v5 c0_i32_22
  let c0_i32_23 : BitVec 32 := 0#32
  let v33 : BitVec 1 := Scalar.cmpi .eq v8 c0_i32_23
  let c0_i32_25 : BitVec 32 := 0#32
  let c1_i32_24 : BitVec 32 := 1#32
  let v34 : BitVec 32 := Scalar.subi v8 c1_i32_24
  let v35 : BitVec 32 := Scalar.select v33 c0_i32_25 v34
  let c3_i32_26 : BitVec 32 := 3#32
  let v36 : BitVec 1 := Scalar.cmpi .eq v8 c3_i32_26
  let c3_i32_28 : BitVec 32 := 3#32
  let c1_i32_27 : BitVec 32 := 1#32
  let v37 : BitVec 32 := Scalar.addi v8 c1_i32_27
  let v38 : BitVec 32 := Scalar.select v36 c3_i32_28 v37
  let v39 : BitVec 32 := Scalar.select v32 v35 v38
  let c1_i32_132 : BitVec 32 := 1#32
  let v196 : BitVec 32 := Scalar.muli v39 c1_i32_132
  let v197 : BitVec 32 := Scalar.addi v195 v196
  v197.toNat
def k0_dev7 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v218 : BitVec 32 := Scalar.muli v2 c8_i32_149
  let v219 : BitVec 32 := Scalar.addi c0_i32_150 v218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_2 : BitVec 32 := 0#32
  let v12 : BitVec 1 := Scalar.cmpi .eq v5 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .eq v8 c3_i32
  let c1_i32_3 : BitVec 32 := 1#32
  let c0_i32_4 : BitVec 32 := 0#32
  let v14 : BitVec 32 := Scalar.select v13 c1_i32_3 c0_i32_4
  let c0_i32_5 : BitVec 32 := 0#32
  let v15 : BitVec 1 := Scalar.cmpi .eq v8 c0_i32_5
  let c0_i32_6 : BitVec 32 := 0#32
  let c1_i32_7 : BitVec 32 := 1#32
  let v16 : BitVec 32 := Scalar.select v15 c0_i32_6 c1_i32_7
  let v17 : BitVec 32 := Scalar.select v12 v14 v16
  let c4_i32_151 : BitVec 32 := 4#32
  let v220 : BitVec 32 := Scalar.muli v17 c4_i32_151
  let v221 : BitVec 32 := Scalar.addi v219 v220
  let c0_i32_8 : BitVec 32 := 0#32
  let v18 : BitVec 1 := Scalar.cmpi .eq v5 c0_i32_8
  let c3_i32_9 : BitVec 32 := 3#32
  let v19 : BitVec 1 := Scalar.cmpi .eq v8 c3_i32_9
  let c3_i32_11 : BitVec 32 := 3#32
  let c1_i32_10 : BitVec 32 := 1#32
  let v20 : BitVec 32 := Scalar.addi v8 c1_i32_10
  let v21 : BitVec 32 := Scalar.select v19 c3_i32_11 v20
  let c0_i32_12 : BitVec 32 := 0#32
  let v22 : BitVec 1 := Scalar.cmpi .eq v8 c0_i32_12
  let c0_i32_14 : BitVec 32 := 0#32
  let c1_i32_13 : BitVec 32 := 1#32
  let v23 : BitVec 32 := Scalar.subi v8 c1_i32_13
  let v24 : BitVec 32 := Scalar.select v22 c0_i32_14 v23
  let v25 : BitVec 32 := Scalar.select v18 v21 v24
  let c1_i32_152 : BitVec 32 := 1#32
  let v222 : BitVec 32 := Scalar.muli v25 c1_i32_152
  let v223 : BitVec 32 := Scalar.addi v221 v222
  v223.toNat
def k0_dev8 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v244 : BitVec 32 := Scalar.muli v2 c8_i32_169
  let v245 : BitVec 32 := Scalar.addi c0_i32_170 v244
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_15 : BitVec 32 := 0#32
  let v26 : BitVec 1 := Scalar.cmpi .eq v5 c0_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_16 : BitVec 32 := 0#32
  let v27 : BitVec 1 := Scalar.cmpi .eq v8 c0_i32_16
  let c1_i32_17 : BitVec 32 := 1#32
  let c0_i32_18 : BitVec 32 := 0#32
  let v28 : BitVec 32 := Scalar.select v27 c1_i32_17 c0_i32_18
  let c3_i32_19 : BitVec 32 := 3#32
  let v29 : BitVec 1 := Scalar.cmpi .eq v8 c3_i32_19
  let c0_i32_20 : BitVec 32 := 0#32
  let c1_i32_21 : BitVec 32 := 1#32
  let v30 : BitVec 32 := Scalar.select v29 c0_i32_20 c1_i32_21
  let v31 : BitVec 32 := Scalar.select v26 v28 v30
  let c4_i32_171 : BitVec 32 := 4#32
  let v246 : BitVec 32 := Scalar.muli v31 c4_i32_171
  let v247 : BitVec 32 := Scalar.addi v245 v246
  let c0_i32_22 : BitVec 32 := 0#32
  let v32 : BitVec 1 := Scalar.cmpi .eq v5 c0_i32_22
  let c0_i32_23 : BitVec 32 := 0#32
  let v33 : BitVec 1 := Scalar.cmpi .eq v8 c0_i32_23
  let c0_i32_25 : BitVec 32 := 0#32
  let c1_i32_24 : BitVec 32 := 1#32
  let v34 : BitVec 32 := Scalar.subi v8 c1_i32_24
  let v35 : BitVec 32 := Scalar.select v33 c0_i32_25 v34
  let c3_i32_26 : BitVec 32 := 3#32
  let v36 : BitVec 1 := Scalar.cmpi .eq v8 c3_i32_26
  let c3_i32_28 : BitVec 32 := 3#32
  let c1_i32_27 : BitVec 32 := 1#32
  let v37 : BitVec 32 := Scalar.addi v8 c1_i32_27
  let v38 : BitVec 32 := Scalar.select v36 c3_i32_28 v37
  let v39 : BitVec 32 := Scalar.select v32 v35 v38
  let c1_i32_172 : BitVec 32 := 1#32
  let v248 : BitVec 32 := Scalar.muli v39 c1_i32_172
  let v249 : BitVec 32 := Scalar.addi v247 v248
  v249.toNat
def k0_dev9 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v270 : BitVec 32 := Scalar.muli v2 c8_i32_189
  let v271 : BitVec 32 := Scalar.addi c0_i32_190 v270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_2 : BitVec 32 := 0#32
  let v12 : BitVec 1 := Scalar.cmpi .eq v5 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .eq v8 c3_i32
  let c1_i32_3 : BitVec 32 := 1#32
  let c0_i32_4 : BitVec 32 := 0#32
  let v14 : BitVec 32 := Scalar.select v13 c1_i32_3 c0_i32_4
  let c0_i32_5 : BitVec 32 := 0#32
  let v15 : BitVec 1 := Scalar.cmpi .eq v8 c0_i32_5
  let c0_i32_6 : BitVec 32 := 0#32
  let c1_i32_7 : BitVec 32 := 1#32
  let v16 : BitVec 32 := Scalar.select v15 c0_i32_6 c1_i32_7
  let v17 : BitVec 32 := Scalar.select v12 v14 v16
  let c4_i32_191 : BitVec 32 := 4#32
  let v272 : BitVec 32 := Scalar.muli v17 c4_i32_191
  let v273 : BitVec 32 := Scalar.addi v271 v272
  let c0_i32_8 : BitVec 32 := 0#32
  let v18 : BitVec 1 := Scalar.cmpi .eq v5 c0_i32_8
  let c3_i32_9 : BitVec 32 := 3#32
  let v19 : BitVec 1 := Scalar.cmpi .eq v8 c3_i32_9
  let c3_i32_11 : BitVec 32 := 3#32
  let c1_i32_10 : BitVec 32 := 1#32
  let v20 : BitVec 32 := Scalar.addi v8 c1_i32_10
  let v21 : BitVec 32 := Scalar.select v19 c3_i32_11 v20
  let c0_i32_12 : BitVec 32 := 0#32
  let v22 : BitVec 1 := Scalar.cmpi .eq v8 c0_i32_12
  let c0_i32_14 : BitVec 32 := 0#32
  let c1_i32_13 : BitVec 32 := 1#32
  let v23 : BitVec 32 := Scalar.subi v8 c1_i32_13
  let v24 : BitVec 32 := Scalar.select v22 c0_i32_14 v23
  let v25 : BitVec 32 := Scalar.select v18 v21 v24
  let c1_i32_192 : BitVec 32 := 1#32
  let v274 : BitVec 32 := Scalar.muli v25 c1_i32_192
  let v275 : BitVec 32 := Scalar.addi v273 v274
  v275.toNat
def k0_dev10 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v296 : BitVec 32 := Scalar.muli v2 c8_i32_209
  let v297 : BitVec 32 := Scalar.addi c0_i32_210 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_15 : BitVec 32 := 0#32
  let v26 : BitVec 1 := Scalar.cmpi .eq v5 c0_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_16 : BitVec 32 := 0#32
  let v27 : BitVec 1 := Scalar.cmpi .eq v8 c0_i32_16
  let c1_i32_17 : BitVec 32 := 1#32
  let c0_i32_18 : BitVec 32 := 0#32
  let v28 : BitVec 32 := Scalar.select v27 c1_i32_17 c0_i32_18
  let c3_i32_19 : BitVec 32 := 3#32
  let v29 : BitVec 1 := Scalar.cmpi .eq v8 c3_i32_19
  let c0_i32_20 : BitVec 32 := 0#32
  let c1_i32_21 : BitVec 32 := 1#32
  let v30 : BitVec 32 := Scalar.select v29 c0_i32_20 c1_i32_21
  let v31 : BitVec 32 := Scalar.select v26 v28 v30
  let c4_i32_211 : BitVec 32 := 4#32
  let v298 : BitVec 32 := Scalar.muli v31 c4_i32_211
  let v299 : BitVec 32 := Scalar.addi v297 v298
  let c0_i32_22 : BitVec 32 := 0#32
  let v32 : BitVec 1 := Scalar.cmpi .eq v5 c0_i32_22
  let c0_i32_23 : BitVec 32 := 0#32
  let v33 : BitVec 1 := Scalar.cmpi .eq v8 c0_i32_23
  let c0_i32_25 : BitVec 32 := 0#32
  let c1_i32_24 : BitVec 32 := 1#32
  let v34 : BitVec 32 := Scalar.subi v8 c1_i32_24
  let v35 : BitVec 32 := Scalar.select v33 c0_i32_25 v34
  let c3_i32_26 : BitVec 32 := 3#32
  let v36 : BitVec 1 := Scalar.cmpi .eq v8 c3_i32_26
  let c3_i32_28 : BitVec 32 := 3#32
  let c1_i32_27 : BitVec 32 := 1#32
  let v37 : BitVec 32 := Scalar.addi v8 c1_i32_27
  let v38 : BitVec 32 := Scalar.select v36 c3_i32_28 v37
  let v39 : BitVec 32 := Scalar.select v32 v35 v38
  let c1_i32_212 : BitVec 32 := 1#32
  let v300 : BitVec 32 := Scalar.muli v39 c1_i32_212
  let v301 : BitVec 32 := Scalar.addi v299 v300
  v301.toNat
def k0_dev11 (d0 : Dev nD) : Nat :=
  let c0_i32_230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_229 : BitVec 32 := 8#32
  let v322 : BitVec 32 := Scalar.muli v2 c8_i32_229
  let v323 : BitVec 32 := Scalar.addi c0_i32_230 v322
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_2 : BitVec 32 := 0#32
  let v12 : BitVec 1 := Scalar.cmpi .eq v5 c0_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .eq v8 c3_i32
  let c1_i32_3 : BitVec 32 := 1#32
  let c0_i32_4 : BitVec 32 := 0#32
  let v14 : BitVec 32 := Scalar.select v13 c1_i32_3 c0_i32_4
  let c0_i32_5 : BitVec 32 := 0#32
  let v15 : BitVec 1 := Scalar.cmpi .eq v8 c0_i32_5
  let c0_i32_6 : BitVec 32 := 0#32
  let c1_i32_7 : BitVec 32 := 1#32
  let v16 : BitVec 32 := Scalar.select v15 c0_i32_6 c1_i32_7
  let v17 : BitVec 32 := Scalar.select v12 v14 v16
  let c4_i32_231 : BitVec 32 := 4#32
  let v324 : BitVec 32 := Scalar.muli v17 c4_i32_231
  let v325 : BitVec 32 := Scalar.addi v323 v324
  let c0_i32_8 : BitVec 32 := 0#32
  let v18 : BitVec 1 := Scalar.cmpi .eq v5 c0_i32_8
  let c3_i32_9 : BitVec 32 := 3#32
  let v19 : BitVec 1 := Scalar.cmpi .eq v8 c3_i32_9
  let c3_i32_11 : BitVec 32 := 3#32
  let c1_i32_10 : BitVec 32 := 1#32
  let v20 : BitVec 32 := Scalar.addi v8 c1_i32_10
  let v21 : BitVec 32 := Scalar.select v19 c3_i32_11 v20
  let c0_i32_12 : BitVec 32 := 0#32
  let v22 : BitVec 1 := Scalar.cmpi .eq v8 c0_i32_12
  let c0_i32_14 : BitVec 32 := 0#32
  let c1_i32_13 : BitVec 32 := 1#32
  let v23 : BitVec 32 := Scalar.subi v8 c1_i32_13
  let v24 : BitVec 32 := Scalar.select v22 c0_i32_14 v23
  let v25 : BitVec 32 := Scalar.select v18 v21 v24
  let c1_i32_232 : BitVec 32 := 1#32
  let v326 : BitVec 32 := Scalar.muli v25 c1_i32_232
  let v327 : BitVec 32 := Scalar.addi v325 v326
  v327.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x2048, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Product.lean ====
/-
The reference's product over the extended reals, element by element: over them the two casts of the result change nothing.
-/
module

public import proofs.«01_k».proof.Proof.Gen.ReferenceIdeal.Run
public import Idealize.ShloMosaic.Lib.Pipeline.Value
public import Idealize.ShloMosaic.Lib.ValueIdxCore
public import Idealize.ShloMosaic.PureOps.Ideal.Laws

@[expose] public section

noncomputable section

namespace Cert.ReferenceIdeal.Value

open Cert.ReferenceIdeal Cert.ReferenceIdeal.Gen
open Idealize.ShloMosaic
open Idealize.ShloMosaic.ValueIdx (contrEquiv1 contrEquiv1_symm_val)

/-- What the reference computes of its two arguments: the product, rounded to the arguments' type and widened again. -/
def product (X : FVec Ideal S2048x1024 .bf16) (Y : FVec Ideal S2048x4096 .bf16) : FVec Ideal S1024x4096 .f32 :=
  extf .f32 (truncf .bf16 (Host.dotGeneral dot_S1024x2048_S2048x4096_S1024x4096_1_0_0_1_n_n none
    (transpose S1024x2048 [1, 0] X transposes_S2048x1024_S1024x2048_1_0) Y) bitsLt_bf16_f32) bitsLt_bf16_f32

/-- An element of the product: the sum over the 2048 rows of the two arguments. -/
theorem product_apply (X : FVec Ideal S2048x1024 .bf16) (Y : FVec Ideal S2048x4096 .bf16) (i : Fin 1024) (j : Fin 4096) :
    product X Y (ValueIdx.ix2 i j) = ∑ k : Fin 2048, X (ValueIdx.ix2 k i) * Y (ValueIdx.ix2 k j) := by
  have hr : (dot_S1024x2048_S2048x4096_S1024x4096_1_0_0_1_n_n).contr.rank = 1 := rfl
  have hs : (dot_S1024x2048_S2048x4096_S1024x4096_1_0_0_1_n_n).contr.size ⟨0, by omega⟩ = 2048 := rfl
  unfold product
  simp only [Host.dotGeneral]
  refine (Ideal.dotGeneral_apply dot_S1024x2048_S2048x4096_S1024x4096_1_0_0_1_n_n none .single
    (transpose S1024x2048 [1, 0] X transposes_S2048x1024_S1024x2048_1_0) Y (ValueIdx.ix2 i j)).trans ?_
  rw [← Equiv.sum_comp (contrEquiv1 dot_S1024x2048_S2048x4096_S1024x4096_1_0_0_1_n_n 2048 hr hs).symm]
  refine Finset.sum_congr rfl fun k _ => ?_
  have hk := contrEquiv1_symm_val _ 2048 hr hs k
  have el : (dot_S1024x2048_S2048x4096_S1024x4096_1_0_0_1_n_n).lhsIdx (ValueIdx.ix2 i j) ((contrEquiv1 _ 2048 hr hs).symm k) = ValueIdx.ix2 i k := by
    funext a; apply Fin.ext
    match a with
    | ⟨0, _⟩ => rfl
    | ⟨1, _⟩ => exact hk
  have er : (dot_S1024x2048_S2048x4096_S1024x4096_1_0_0_1_n_n).rhsIdx (ValueIdx.ix2 i j) ((contrEquiv1 _ 2048 hr hs).symm k) = ValueIdx.ix2 k j := by
    funext a; apply Fin.ext
    match a with
    | ⟨0, _⟩ => exact hk
    | ⟨1, _⟩ => rfl
  rw [el, er]
  refine congrArg (· * Y (ValueIdx.ix2 k j)) ?_
  exact transpose_apply [1, 0] X transposes_S2048x1024_S1024x2048_1_0 (ValueIdx.ix2 i k) (ValueIdx.ix2 k i) fun b => by
    match b with
    | ⟨0, _⟩ => rfl
    | ⟨1, _⟩ => rfl

end Cert.ReferenceIdeal.Value

end
-- ==== Proof.KernelIdeal.Protocol.lean ====
/-
The ring, the cells and the protocol of the kernel `cc0_body`.

The 16 devices form two rings of eight (one for each half of the contraction), and device `c` stands at place
`pos c` of its ring, with a neighbour on either side (`nxt c`, `prv c`) and a partner in the other ring (`peer c`).
A device multiplies its half of the contraction for its own column block, sends the half that its partner keeps to
the partner, adds what the partner sent, and hands the finished 512 x 512 block round its ring: four hops forward,
three hops backward. At the start each device tells the three devices that write into its scratch memory that the
memory is there, and waits for the three devices into whose scratch memory it writes.

This file names the semaphores and who pays them (`Kind`), the contents of every buffer that travels, the
resources that travel with each payment (`payload`), what a device owes, and the order in which waits are safe.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The ring -/

/-- The place of a device in its ring: the first row of four runs up, the second runs down. -/
def place (n : ℕ) : ℕ := if n / 4 % 2 = 0 then n % 4 else 7 - n % 4

/-- The place of device `c`, below eight. -/
def pos (c : Dev nD) : Fin 8 := ⟨place c.val % 8, Nat.mod_lt _ (by decide)⟩

/-- The device at place `q` of the ring of device `c`. -/
def ofPlace (c : Dev nD) (q : Fin 8) : Dev nD :=
  ⟨(c.val / 8 * 8 + (if q.val < 4 then q.val else 4 + (7 - q.val))) % 16, Nat.mod_lt _ (by decide)⟩

/-- The neighbour one place up the ring. -/
def nxt (c : Dev nD) : Dev nD := ofPlace c (pos c + 1)
/-- The neighbour one place down the ring. -/
def prv (c : Dev nD) : Dev nD := ofPlace c (pos c - 1)
/-- The partner in the other ring. -/
def peer (c : Dev nD) : Dev nD := ⟨(c.val + 8) % 16, Nat.mod_lt _ (by decide)⟩

theorem ofPlace_pos : ∀ c : Dev nD, ofPlace c (pos c) = c := by decide +kernel
theorem pos_ofPlace : ∀ (c : Dev nD) (q : Fin 8), pos (ofPlace c q) = q := by decide +kernel
theorem ofPlace_ofPlace : ∀ (c : Dev nD) (q q' : Fin 8), ofPlace (ofPlace c q) q' = ofPlace c q' := by decide +kernel
theorem ofPlace_nxt (c : Dev nD) (q : Fin 8) : ofPlace (nxt c) q = ofPlace c q := ofPlace_ofPlace c _ q
theorem ofPlace_prv (c : Dev nD) (q : Fin 8) : ofPlace (prv c) q = ofPlace c q := ofPlace_ofPlace c _ q
theorem pos_nxt (c : Dev nD) : pos (nxt c) = pos c + 1 := pos_ofPlace c _
theorem pos_prv (c : Dev nD) : pos (prv c) = pos c - 1 := pos_ofPlace c _
theorem prv_nxt : ∀ c : Dev nD, prv (nxt c) = c := by decide +kernel
theorem nxt_prv : ∀ c : Dev nD, nxt (prv c) = c := by decide +kernel
theorem peer_peer : ∀ c : Dev nD, peer (peer c) = c := by decide +kernel
theorem pos_peer : ∀ c : Dev nD, pos (peer c) = pos c := by decide +kernel

/-- The slot that device `c` sends on its forward hop `h`. -/
def fslot (c : Dev nD) (h : ℕ) : Fin 8 := pos c - Fin.ofNat 8 h
/-- The slot that device `c` sends on its backward hop `h`. -/
def bslot (c : Dev nD) (h : ℕ) : Fin 8 := pos c + Fin.ofNat 8 h

theorem fslot_zero : ∀ c : Dev nD, fslot c 0 = pos c := by decide +kernel
theorem bslot_zero : ∀ c : Dev nD, bslot c 0 = pos c := by decide +kernel
theorem fslot_nxt : ∀ (c : Dev nD) (h : Fin 4), fslot (nxt c) (h.val + 1) = fslot c h.val := by decide +kernel
theorem bslot_of_nxt : ∀ (c : Dev nD) (h : Fin 3), bslot (nxt c) h.val = bslot c (h.val + 1) := by decide +kernel
theorem fslot_of_prv : ∀ (c : Dev nD) (h : Fin 4), fslot (prv c) h.val = fslot c (h.val + 1) := by decide +kernel
theorem bslot_prv : ∀ (c : Dev nD) (h : Fin 3), bslot (prv c) (h.val + 1) = bslot c h.val := by decide +kernel

/-! ## The printed device numbers and offsets -/

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = prv c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = prv c := by revert c; decide +kernel
theorem dev11_eq (c : Dev nD) : (⟨k0_dev11 c, k0_dev11_lt c⟩ : Dev nD) = nxt c := by revert c; decide +kernel

/-- The offsets of slot `q` in the buffer of eight blocks. -/
def slotOff (q : Fin 8) : Fin 3 → Nat := ![q.val, 0, 0]

theorem slotOff_inb (q : Fin 8) : ∀ a, slotOff q a + S1x512x512.size a ≤ S8x512x512.size a := by revert q; decide +kernel

theorem off4_eq (c : Dev nD) : k0_off4 c = slotOff (pos c) := by revert c; decide +kernel
theorem off5_eq (c : Dev nD) (h : Fin 4) : k0_off5 c (BitVec.ofNat 32 h.val) = slotOff (fslot c h.val) := by revert c h; decide +kernel
theorem off6_eq (c : Dev nD) (h : Fin 3) : k0_off6 c (BitVec.ofNat 32 h.val) = slotOff (bslot c h.val) := by revert c h; decide +kernel

/-! ## The semaphores and who pays them -/

/-- The payments of one device, by what they are: the three entry signals (to the partner, to the next, to the previous
    device), the exchange with the partner (sent, received) and the forward and backward hops (sent, received). A
    `received` payment is made to the device the copy goes to, a `sent` one to the device itself. -/
inductive Kind
  | bar (j : Fin 3)
  | xs | xr
  | fs (h : Fin 4) | fr (h : Fin 4)
  | bs (h : Fin 3) | br (h : Fin 3)
  deriving DecidableEq, Fintype

/-- The runtime's barrier semaphore. -/
abbrev barS : Sem sig := (SemArray.scalar (sig.barrier 0 rfl) : Sems sig S_).sem

/-- The 17 semaphores: the barrier first, then the kernel's own sixteen. -/
abbrev csem : Fin 17 → SemLoc sig := Fin.cases (.reg barS) fun k => .dma ⟨3 + k.val, by have := k.isLt; show 3 + k.val < 19; omega⟩

/-- The kernel's own sixteen. -/
abbrev osem (k : Fin 16) : SemLoc sig := csem k.succ

/-- The number of the semaphore that a payment raises. -/
def Kind.idx : Kind → Fin 17
  | .bar _ => 0
  | .fs h => ⟨1 + h.val, by omega⟩
  | .fr h => ⟨5 + h.val, by omega⟩
  | .bs h => ⟨9 + h.val, by omega⟩
  | .br h => ⟨12 + h.val, by omega⟩
  | .xs => 15
  | .xr => 16

/-- The semaphore that a payment raises. -/
abbrev Kind.sem (k : Kind) : SemLoc sig := csem k.idx

/-- The device that a payment of device `c` goes to. -/
def Kind.dst : Kind → Dev nD → Dev nD
  | .bar 0, c => peer c
  | .bar 1, c => nxt c
  | .bar 2, c => prv c
  | .xs, c => c
  | .xr, c => peer c
  | .fs _, c => c
  | .fr _, c => nxt c
  | .bs _, c => c
  | .br _, c => prv c

theorem dst_injective : ∀ k : Kind, Function.Injective k.dst := by decide +kernel

/-- Whether a payment is an entry signal. -/
def Kind.isBar : Kind → Bool
  | .bar _ => true
  | _ => false

/-- The cell of device `c` at semaphore number `i`. -/
abbrev kcell (ci : Dev nD × Fin 17) : GSem nD τ sig := ((ci.1 : Thread nD τ), csem ci.2)
/-- The cell of device `c` that payments of kind `k` raise. -/
abbrev cell (c : Dev nD) (k : Kind) : GSem nD τ sig := ((c : Thread nD τ), k.sem)
/-- The cell that device `c`'s payment of kind `k` raises. -/
abbrev pcell (c : Dev nD) (k : Kind) : GSem nD τ sig := cell (k.dst c) k

theorem csem_injective : Function.Injective csem := by decide +kernel

/-- The units of one whole 512 x 512 copy. -/
abbrev NB : ℕ := (Memref.whole cc0_scratch2 : Memref sig .tc .vmem S512x512 .bf16).view.dmaCredit
theorem NB_pos : 0 < NB := View.dmaCredit_pos _ (by decide)

/-- The units of a payment. -/
def Kind.amt : Kind → ℕ
  | .bar _ => 1
  | _ => NB
theorem Kind.amt_pos : ∀ k : Kind, 0 < k.amt
  | .bar _ => Nat.one_pos
  | .xs | .xr | .fs _ | .fr _ | .bs _ | .br _ => NB_pos
theorem Kind.amt_of {k : Kind} (h : k.isBar = false) : k.amt = NB := by cases k <;> first | rfl | cases h

/-- The payments that raise the semaphore of `k`: `k` alone, unless `k` is an entry signal. -/
theorem filter_sem : ∀ k : Kind, (Finset.univ.filter fun k' : Kind => k'.sem = k.sem) = if k.isBar then {.bar 0, .bar 1, .bar 2} else {k} := by
  decide +kernel

/-- The slot `q` as the copies name it. -/
abbrev slotM (off : Fin 3 → Nat) (h : ∀ a, off a + S1x512x512.size a ≤ S8x512x512.size a) : Memref sig .tc .vmem S512x512 .bf16 :=
  ((Memref.whole cc0_scratch0 : Memref sig .tc .vmem S8x512x512 .bf16).slice (Rect.unit (s := S8x512x512) off S1x512x512.size h) (fun _ => rfl)).squeeze S512x512 squeezes_S1x512x512_S512x512

theorem slot_credit (off : Fin 3 → Nat) (h) : (slotM off h).view.dmaCredit = NB := rfl

end Cert.KernelIdeal.Ring

end
-- ==== Proof.KernelIdeal.Schedule.lean ====
/-
The contents that travel, the resources handed over with each payment, what each device owes, and the levels.
-/
module

public import proofs.«01_k».proof.Proof.KernelIdeal.Protocol

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the kernel's own cells, one payment name per kind. -/
abbrev UB := URounds (GSem nD τ sig) Kind
/-- With the pipeline's. -/
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore zero. -/
def s₀ : MemSt nD τ sig (Elt F) := ⟨m, fun _ => 0, ρ⟩

/-! ## Buffers -/

abbrev xM : Memref sig .tc .vmem S1024x1024 .bf16 := Memref.whole cc0_stg0_0
abbrev yM : Memref sig .tc .vmem S1024x4096 .bf16 := Memref.whole cc0_stg1_0
abbrev oM : Memref sig .tc .vmem S512x4096 .f32 := Memref.whole cc0_stg2_0
abbrev kM : Memref sig .tc .vmem S8x512x512 .bf16 := Memref.whole cc0_scratch0
abbrev sM : Memref sig .tc .vmem S512x512 .bf16 := Memref.whole cc0_scratch1
abbrev rM : Memref sig .tc .vmem S512x512 .bf16 := Memref.whole cc0_scratch2

/-- The indices of slot `q`. -/
def slotSet (q : Fin 8) : Finset S8x512x512.Idx := (slotM (slotOff q) (slotOff_inb q)).view.set

theorem mem_slotSet (q : Fin 8) (i : S8x512x512.Idx) : i ∈ slotSet q ↔ (i 0).val = q.val := by
  have h : slotSet q = (Rect.unit (s := S8x512x512) (slotOff q) S1x512x512.size (slotOff_inb q)).set := by
    unfold slotSet
    exact (View.set_reshape _ _).trans (View.set_slice_whole _ _)
  rw [h, Rect.mem_set_unit]
  constructor
  · intro hi
    have h0 := hi 0
    have e0 : slotOff q 0 = q.val := rfl
    have e1 : S1x512x512.size 0 = 1 := rfl
    rw [e0, e1] at h0
    omega
  · intro hi a
    match a with
    | ⟨0, _⟩ => exact ⟨le_of_eq hi.symm, by show (i 0).val < q.val + 1; omega⟩
    | ⟨1, _⟩ => exact ⟨Nat.zero_le _, by show (i 1).val < 0 + 512; have : (i 1).val < 512 := (i 1).isLt; omega⟩
    | ⟨2, _⟩ => exact ⟨Nat.zero_le _, by show (i 2).val < 0 + 512; have : (i 2).val < 512 := (i 2).isLt; omega⟩

theorem slotSet_disjoint (q q' : Fin 8) (h : q ≠ q') : Disjoint (slotSet q) (slotSet q') :=
  Finset.disjoint_left.mpr fun i hi hi' => h (Fin.ext (((mem_slotSet q i).mp hi).symm.trans ((mem_slotSet q' i).mp hi')))

theorem slotSet_union : Finset.univ.biUnion slotSet = (Finset.univ : Finset S8x512x512.Idx) := by
  refine Finset.eq_univ_iff_forall.mpr fun i => Finset.mem_biUnion.mpr ⟨⟨(i 0).val, (i 0).isLt⟩, Finset.mem_univ _, ?_⟩
  exact (mem_slotSet _ i).mpr rfl

/-- The whole buffer of eight blocks on device `c`. -/
def blksPts (c : Dev nD) (q : PosShare TreeShare) (f : Buf (Elt F) ((c : Thread nD τ).loc cc0_scratch0)) : sProp 𝕄 :=
  ((c : Thread nD τ).loc cc0_scratch0) ↦{q} f
/-- Slot `q` of it. -/
def slotPts (c : Dev nD) (q : Fin 8) (sh : PosShare TreeShare) (f : Buf (Elt F) ((c : Thread nD τ).loc cc0_scratch0)) : sProp 𝕄 :=
  ((c : Thread nD τ).loc cc0_scratch0) ↦[slotSet q]{sh} f
/-- The buffer the exchanged half is sent from. -/
def sndPts (c : Dev nD) (f : Buf (Elt F) ((c : Thread nD τ).loc cc0_scratch1)) : sProp 𝕄 :=
  ((c : Thread nD τ).loc cc0_scratch1) ↦{fullShare} f
/-- The buffer the partner's half lands in. -/
def rcvPts (c : Dev nD) (f : Buf (Elt F) ((c : Thread nD τ).loc cc0_scratch2)) : sProp 𝕄 :=
  ((c : Thread nD τ).loc cc0_scratch2) ↦{fullShare} f
/-- A slot with any contents, ready for a copy to land in. -/
def land (c : Dev nD) (q : Fin 8) : sProp 𝕄 := iprop(∃ f, slotPts (F := F) c q fullShare f)

instance slotPts_storable (c : Dev nD) (q) (sh) (f) : BI.Storable (upEmb : UEmb _ 𝕄) (slotPts (F := F) c q sh f) := by unfold slotPts; infer_instance
instance sndPts_storable (c : Dev nD) (f) : BI.Storable (upEmb : UEmb _ 𝕄) (sndPts (F := F) c f) := by unfold sndPts; infer_instance
instance rcvPts_storable (c : Dev nD) (f) : BI.Storable (upEmb : UEmb _ 𝕄) (rcvPts (F := F) c f) := by unfold rcvPts; infer_instance
instance land_storable (c : Dev nD) (q) : BI.Storable (upEmb : UEmb _ 𝕄) (land (F := F) c q) := by unfold land; infer_instance

/-- The share of a slot lent to the forward copy out of it, -/
abbrev shA : PosShare TreeShare := fullShare.left.left
/-- the share lent to the backward copy out of it, -/
abbrev shB : PosShare TreeShare := fullShare.left.right
/-- and the share kept. -/
abbrev shR : PosShare TreeShare := fullShare.right

/-- The whole buffer is its eight slots. -/
theorem blksPts_slots (c : Dev nD) (sh) (f) : (blksPts (F := F) c sh f) = bigSep Finset.univ fun q : Fin 8 => slotPts c q sh f := by
  unfold blksPts slotPts
  exact (congrArg (fun S : Finset S8x512x512.Idx => (((c : Thread nD τ).loc cc0_scratch0) ↦[S]{sh} f : sProp 𝕄)) slotSet_union.symm).trans
    (pointsTo_biUnion (ℓ := (c : Thread nD τ).loc cc0_scratch0) (f := f) Finset.univ slotSet fun q _ q' _ h => slotSet_disjoint q q' h)

/-- A slot held outright is its three shares. -/
theorem slotPts_shares (c : Dev nD) (q) (f) :
    (slotPts (F := F) c q fullShare f) ⊣⊢ iprop(slotPts c q shA f ∗ slotPts c q shB f ∗ slotPts c q shR f) := by
  unfold slotPts
  have h1 := pointsTo_share (ℓ := (c : Thread nD τ).loc cc0_scratch0) (I := slotSet q) (f := f) (Ix := Unit) (Name := ℕ) (U := UU) (Lvl := ℕ)
    (PosShare.mem_left_op_right fullShare)
  have h2 := pointsTo_share (ℓ := (c : Thread nD τ).loc cc0_scratch0) (I := slotSet q) (f := f) (Ix := Unit) (Name := ℕ) (U := UU) (Lvl := ℕ)
    (PosShare.mem_left_op_right fullShare.left)
  refine ⟨h1.1.trans ((sep_mono_left h2.1).trans (by iintro ⟨⟨H1, H2⟩, H3⟩; isplitl [H1]; · iexact H1
                                                     isplitl [H2] <;> iassumption)), ?_⟩
  refine BIBase.Entails.trans ?_ ((sep_mono_left h2.2).trans h1.2)
  iintro ⟨H1, H2, H3⟩
  isplitr [H3]
  · isplitl [H1] <;> iassumption
  · iexact H3

/-- The eight slots, named from device `c`'s place: its own, those it sends forward, those it sends backward and the
    two it only receives. -/
theorem slots_from (c : Dev nD) (Φ : Fin 8 → sProp 𝕄) :
    bigSep Finset.univ Φ = iprop(Φ (fslot c 0) ∗ Φ (fslot c 1) ∗ Φ (fslot c 2) ∗ Φ (fslot c 3) ∗ Φ (fslot c 4) ∗ Φ (bslot c 1) ∗ Φ (bslot c 2) ∗ Φ (bslot c 3)) := by
  rw [bigSep_univ_eq_bigSepL [fslot c 0, fslot c 1, fslot c 2, fslot c 3, fslot c 4, bslot c 1, bslot c 2, bslot c 3]
    (by revert c; decide +kernel) (by revert c; decide +kernel)]
  simp only [bigSepL_cons_cons, bigSepL_singleton]
  rfl

/-! ## Contents -/

/-- The staged block of `x` on device `c`. -/
def xstg (c : Dev nD) : (cc0_stg0_0 : Ref sig .tc).ty.Contents (Elt F) :=
  (win0_0.blk (0 : Fin 1)).view.read (Elt F) (m ((c : Thread nD τ).loc main_arg0))
/-- The staged block of `dy`. -/
def ystg (c : Dev nD) : (cc0_stg1_0 : Ref sig .tc).ty.Contents (Elt F) :=
  (win0_1.blk (0 : Fin 1)).view.read (Elt F) (m ((c : Thread nD τ).loc main_arg1))

/-- The columns of `dy` that device `c` multiplies by. -/
def ycols (c : Dev nD) : Vec F S1024x512 .bf16 :=
  (yM : Memref sig .tc .vmem S1024x4096 .bf16).view.readAt (Elt F) (Rect.unit (s := S1024x4096) (k0_off1 c) S1024x512.size (k0_off1_inb c)).toLoadRect (ystg m c)
/-- The columns of `x` whose product goes to the partner, -/
def xaway (c : Dev nD) : Vec F S1024x512 .bf16 :=
  (xM : Memref sig .tc .vmem S1024x1024 .bf16).view.readAt (Elt F) (Rect.unit (s := S1024x1024) (k0_off2 c) S1024x512.size (k0_off2_inb c)).toLoadRect (xstg m c)
/-- and those whose product device `c` keeps. -/
def xhome (c : Dev nD) : Vec F S1024x512 .bf16 :=
  (xM : Memref sig .tc .vmem S1024x1024 .bf16).view.readAt (Elt F) (Rect.unit (s := S1024x1024) (k0_off3 c) S1024x512.size (k0_off3_inb c)).toLoadRect (xstg m c)

/-- The half product that device `c` sends its partner. -/
def sentAt (c : Dev nD) : FVec F S512x512 .bf16 := k0_pay2 (ycols m c) (xaway m c)
/-- The finished block of device `c`, as it is stored. -/
def blkAt (c : Dev nD) : FVec F S1x512x512 .bf16 := k0_pay5 (k0_pay3 (ycols m c) (xhome m c)) (k0_pay4 (sentAt m (peer c)))
/-- The buffer of eight blocks when every block has arrived: slot `q` holds the block of the device at place `q`. -/
def blks (c : Dev nD) : (cc0_scratch0 : Ref sig .tc).ty.Contents (Elt F) :=
  fun i : S8x512x512.Idx => blkAt m (ofPlace c ⟨(i 0).val, (i 0).isLt⟩) (fun | ⟨0, _⟩ => (0 : Fin 1) | ⟨1, _⟩ => i 1 | ⟨2, _⟩ => i 2)

theorem blks_nxt (c : Dev nD) : blks m (nxt c) = blks m c := by unfold blks; simp only [ofPlace_nxt]
theorem blks_prv (c : Dev nD) : blks m (prv c) = blks m c := by unfold blks; simp only [ofPlace_prv]

/-! ## The schedule -/

/-- What the owner `o` of a semaphore gets with a payment of kind `k`. -/
def pay : Kind → Dev nD → sProp 𝕄
  | .bar 0, o => iprop(∃ f, rcvPts (F := F) (peer o) f)
  | .bar 1, o => iprop(land (prv o) (bslot o 0) ∗ land (prv o) (bslot o 1) ∗ land (prv o) (bslot o 2))
  | .bar 2, o => iprop(land (nxt o) (fslot o 0) ∗ land (nxt o) (fslot o 1) ∗ land (nxt o) (fslot o 2) ∗ land (nxt o) (fslot o 3))
  | .xs, o => sndPts o (sentAt m o)
  | .xr, o => rcvPts o (sentAt m (peer o))
  | .fs h, o => slotPts o (fslot o h.val) shA (blks m o)
  | .fr h, o => slotPts o (fslot o (h.val + 1)) fullShare (blks m o)
  | .bs h, o => slotPts o (bslot o h.val) shB (blks m o)
  | .br h, o => slotPts o (bslot o (h.val + 1)) fullShare (blks m o)

instance pay_storable : ∀ (k : Kind) (o : Dev nD), BI.Storable (upEmb : UEmb _ 𝕄) (pay m k o)
  | .bar 0, o => by unfold pay; infer_instance
  | .bar 1, o => by unfold pay; infer_instance
  | .bar 2, o => by unfold pay; infer_instance
  | .xs, o => by unfold pay; infer_instance
  | .xr, o => by unfold pay; infer_instance
  | .fs h, o => by unfold pay; infer_instance
  | .fr h, o => by unfold pay; infer_instance
  | .bs h, o => by unfold pay; infer_instance
  | .br h, o => by unfold pay; infer_instance

/-- One round: every semaphore is raised once by each payment that names it. -/
def sched : Rounds.Schedule (GSem nD τ sig) Kind 𝕄 where
  duties g r := if r = 0 ∧ g.1.2 = .tc then Finset.univ.filter (fun k : Kind => k.sem = g.2) else ∅
  unitless _ := False
  amount _ _ k := k.amt
  payload g _ k := pay m k g.1.1
  amount_pos _ _ k _ := k.amt_pos

instance sched_storable (g : GSem nD τ sig) (r : ℕ) (k : Kind) : BI.Storable (upEmb : UEmb _ 𝕄) ((sched (F := F) m).payload g r k) := by
  dsimp only [sched]; infer_instance

theorem duties_cell (c : Dev nD) (k : Kind) : (sched (F := F) m).duties (cell c k) 0 = if k.isBar then {.bar 0, .bar 1, .bar 2} else {k} := by
  dsimp only [sched]; rw [if_pos ⟨rfl, rfl⟩, ← filter_sem k]
theorem mem_duties (c : Dev nD) (k : Kind) : k ∈ (sched (F := F) m).duties (cell c k) 0 := by
  dsimp only [sched]; rw [if_pos ⟨rfl, rfl⟩]; exact Finset.mem_filter.mpr ⟨Finset.mem_univ _, rfl⟩
theorem duties_later (g : GSem nD τ sig) : ∀ r, 0 + 1 ≤ r → (sched (F := F) m).duties g r = ∅ :=
  fun r hr => by dsimp only [sched]; rw [if_neg fun h => by omega]
theorem expect_one (c : Dev nD) {k : Kind} (h : k.isBar = false) : (sched (F := F) m).expect (cell c k) 0 = NB := by
  unfold Schedule.expect Schedule.amountOf
  rw [duties_cell, h, if_neg Bool.false_ne_true, Finset.sum_singleton]
  exact Kind.amt_of h
theorem expect_bar (c : Dev nD) (j : Fin 3) : (sched (F := F) m).expect (cell c (.bar j)) 0 = 3 := by
  unfold Schedule.expect Schedule.amountOf
  rw [duties_cell, show (Kind.bar j).isBar = true from rfl, if_pos rfl]; rfl

/-- The whole of a semaphore's payments, not an entry signal's: one. -/
theorem rest_one (c : Dev nD) {k : Kind} (h : k.isBar = false) :
    bigSep ((sched (F := F) m).duties (cell c k) 0 \ ∅) (fun d => (sched m).payload (cell c k) 0 d) = pay m k c := by
  rw [Finset.sdiff_empty, duties_cell, h, if_neg Bool.false_ne_true, bigSep_singleton]; rfl
/-- The entry signals: three. -/
theorem rest_bar (c : Dev nD) (j : Fin 3) :
    bigSep ((sched (F := F) m).duties (cell c (.bar j)) 0 \ ∅) (fun d => (sched m).payload (cell c (.bar j)) 0 d)
      = iprop(pay m (.bar 0) c ∗ pay m (.bar 1) c ∗ pay m (.bar 2) c) := by
  rw [Finset.sdiff_empty, duties_cell, show (Kind.bar j).isBar = true from rfl, if_pos rfl,
    bigSep_eq_bigSepL_of_eq [.bar 0, .bar 1, .bar 2] (by decide) (by decide)]
  simp only [bigSepL_cons_cons, bigSepL_singleton]
  rfl

/-! ## What a device owes -/

/-- The payments to other devices still owed by device `c`, the next one first. -/
def owedL (c : Dev nD) : List Kind → CellTallies nD τ sig Unit
  | [] => 0
  | k :: l => owedL c l + tallyAt (pcell c k) () k.amt

theorem owedL_pos {c : Dev nD} {g : GSem nD τ sig} {u : Unit} : ∀ {l : List Kind}, 0 < owedL c l g u → ∃ k ∈ l, g = pcell c k
  | [], h => absurd h (Nat.lt_irrefl 0)
  | k :: l, h => by
    unfold owedL at h
    rw [Pi.add_apply, Finsupp.add_apply, tallyAt_apply] at h
    by_cases hk : g = pcell c k ∧ u = ()
    · exact ⟨k, List.mem_cons_self, hk.1⟩
    · rw [if_neg hk, Nat.add_zero] at h
      obtain ⟨k', hm, e⟩ := owedL_pos h
      exact ⟨k', List.mem_cons_of_mem _ hm, e⟩

/-- What device `c` owes at the start, in the order of the program. -/
abbrev dues : List Kind := [.bar 0, .bar 1, .bar 2, .xr, .fr 0, .br 0, .fr 1, .br 1, .fr 2, .br 2, .fr 3]

/-- Where waits are counted: on the devices' own threads. -/
def L (g : GSem nD τ sig) : Finset Unit := if g.1.2 = .tc then {()} else ∅

/-- The level of a semaphore: the barrier, then the exchange, then the hops in their order; a sender's own semaphores
    and the pipeline's come before all of them. -/
def slv : SemLoc sig → ℕ
  | .reg _ => 1
  | .dma s => if 7 ≤ s.val ∧ s.val < 11 then 3 + 2 * (s.val - 7) else if 14 ≤ s.val ∧ s.val < 17 then 4 + 2 * (s.val - 14) else if s.val = 18 then 2 else 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore below every payment it still owes. -/
theorem mayWait (c : Dev nD) (sm : SemLoc sig) (l : List Kind) (h : ∀ k ∈ l, slv sm < slv k.sem) :
    (levAts L lv : sProp 𝕄) ⊢ MayWait (c : Thread nD τ) sm () (owedL c l) :=
  MayOwe.of_cut (L := L) (lev := lv) (slv sm) (fun p hp => by rw [Finset.mem_singleton.mp hp, L_tc]; exact Finset.mem_singleton_self _)
    (fun g u hg => by obtain ⟨k, _, rfl⟩ := owedL_pos hg; rw [L_tc]; exact Finset.mem_singleton_self _)
    (fun p hp => by rw [Finset.mem_singleton.mp hp]; exact le_refl _)
    (fun g u hg => by obtain ⟨k, hk, rfl⟩ := owedL_pos hg; exact h k hk)

end Cert.KernelIdeal.Ring

end
-- ==== Proof.KernelIdeal.Steps.lean ====
/-
The steps of the protocol: an entry signal, the wait for the three entry signals, a copy to another device, and the
wait for a copy. Each is stated once, for any kind of payment, and used by every statement of the kernel.
-/
module

public import proofs.«01_k».proof.Proof.KernelIdeal.Schedule

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, under the names `K`, that every cell is at its round, and the levels. -/
def ctx (K : Dev nD × Fin 17 → ℕ) : sProp 𝕄 :=
  iprop((bigSep Finset.univ fun ci : Dev nD × Fin 17 => cellInv ER (sched m) (K ci) (kcell ci))
    ∗ (bigSep Finset.univ fun ci : Dev nD × Fin 17 => reached ER (kcell ci) 0) ∗ levAts L lv)

instance ctx_persistent (K : Dev nD × Fin 17 → ℕ) : BI.Persistent (ctx (F := F) m K) := by unfold ctx; infer_instance

theorem ctx_inv (K : Dev nD × Fin 17 → ℕ) (c : Dev nD) (k : Kind) : ctx (F := F) m K ⊢ cellInv ER (sched m) (K (c, k.idx)) (cell c k) := by
  unfold ctx
  refine BIBase.Entails.trans sep_elim_left ?_
  exact bigSep_elim (Φ := fun ci : Dev nD × Fin 17 => cellInv ER (sched m) (K ci) (kcell ci)) (Finset.mem_univ (c, k.idx))
theorem ctx_reached (K : Dev nD × Fin 17 → ℕ) (c : Dev nD) (k : Kind) : ctx (F := F) m K ⊢ reached ER (cell c k) 0 := by
  unfold ctx
  refine BIBase.Entails.trans sep_elim_right (BIBase.Entails.trans sep_elim_left ?_)
  exact bigSep_elim (Φ := fun ci : Dev nD × Fin 17 => (reached ER (kcell ci) 0 : sProp 𝕄)) (Finset.mem_univ (c, k.idx))
theorem ctx_lev (K : Dev nD × Fin 17 → ℕ) : ctx (F := F) m K ⊢ levAts L lv := by
  unfold ctx
  exact BIBase.Entails.trans sep_elim_right sep_elim_right

/-- What device `c` still owes: the payments of `l`. -/
def owing (c : Dev nD) (l : List Kind) : sProp 𝕄 := iprop(∃ W, owes (c : Thread nD τ) (owedL c l) W)
/-- Device `c`'s right to pay its `k`. -/
def tok (c : Dev nD) (k : Kind) : sProp 𝕄 := dutyTok ER (pcell c k) 0 k
/-- Device `c` is at the start of its cell of `k`. -/
def at0 (c : Dev nD) (k : Kind) : sProp 𝕄 := atPos ER (cell c k) 0 ∅ 0
/-- Device `c` may wait for one copy at its cell of `k`. -/
def crd (c : Dev nD) (k : Kind) : sProp 𝕄 := cred (tallyAt (cell c k) () NB)
/-- Device `c`'s cell of `k` is finished, its semaphore at zero. -/
def fin (c : Dev nD) (k : Kind) : sProp 𝕄 := semVal (cell c k) 0

/-- What device `c` uses for one copy: the two cells it waits at, the rights to pay for sending and for receiving, and
    the credit of the copy that comes to it. -/
def hop (c : Dev nD) (kS kR : Kind) : sProp 𝕄 := iprop(at0 c kS ∗ at0 c kR ∗ tok c kS ∗ tok c kR ∗ crd c kR)
/-- A copy that device `c` is yet to wait for. -/
def hold (c : Dev nD) (k : Kind) : sProp 𝕄 := iprop(at0 c k ∗ crd c k)

variable (K : Dev nD × Fin 17 → ℕ)

/-- An entry signal: device `c` pays its `bar j`, handing over what goes with it. -/
theorem step_signal (c n : Dev nD) (j : Fin 3) (hn : n = (Kind.bar j).dst c) (l : List Kind) {k' : ℕ} (hk' : k' = 1)
    {α : Type} {Q : α → sProp 𝕄} {k : PUnit → Prog (TpuEff nD τ sig (Elt F) Λ₀ .tc) α} :
    iprop(ctx m K ∗ owing c (.bar j :: l) ∗ tok c (.bar j) ∗ pay m (.bar j) n)
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  unfold owing tok
  iintro ⟨#HK, ⟨%W, HO⟩, Ht, Hp⟩ Hk
  iapply (Rounds.wp_signal 𝒱₀ ER (sched m) (c : Thread nD τ) none (dst := ((Kind.bar j).dst c : Thread nD τ)) (κ := K ((Kind.bar j).dst c, 0))
      (d := .bar j) (mem_duties m ((Kind.bar j).dst c) (.bar j)) rfl () (owedL c l) rfl) $$ [HO Ht Hp]
  · isplitr; · iapply (ctx_inv m K ((Kind.bar j).dst c) (.bar j)); iexact HK
    isplitl [HO]; · iexact HO
    isplitl [Ht]; · iexact Ht
    isplitl [Hp]
    · iapply (Entails.of_eq (show pay m (.bar j) ((Kind.bar j).dst c) = (sched m).payload (((Kind.bar j).dst c : Thread nD τ), .reg barS) 0 (.bar j) from rfl))
      iexact Hp
    iapply (ctx_reached m K ((Kind.bar j).dst c) (.bar j)); iexact HK
  iintro HO
  iapply Hk
  iexists W; iexact HO

/-- The wait for the three entry signals: what they hand over, and the barrier semaphore back at zero. -/
theorem step_barrier (c : Dev nD) (l : List Kind) (hl : ∀ k ∈ l, 1 < slv k.sem) {k' : ℕ} (hk' : k' = 3)
    {α : Type} {Q : α → sProp 𝕄} {k : PUnit → Prog (TpuEff nD τ sig (Elt F) Λ₀ .tc) α} :
    iprop(ctx m K ∗ owing c l ∗ at0 c (.bar 0) ∗ cred (tallyAt (cell c (.bar 0)) () 3))
      ⊢ iprop(((owing c l ∗ (pay m (.bar 0) c ∗ pay m (.bar 1) c ∗ pay m (.bar 2) c) ∗ fin c (.bar 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owing at0 fin
  iintro ⟨#HK, ⟨%W, HO⟩, Ha, Hc⟩ Hk
  ihave #HI := (ctx_inv m K c (.bar 0)) $$ HK
  iapply (Rounds.wp_wait_rest_token 𝒱₀ ER (sched m) (c : Thread nD τ) none (κ := K (c, 0))
      (wpE_semWait_eq 𝒱₀ (c : Thread nD τ) none Set.univ) (Set.mem_univ _) () (O := owedL c l) (W := W) (R := 0) (m := 0) (T := ∅)
      ((Nat.zero_add 3).trans (expect_bar m c 0).symm)) $$ [HO Ha Hc]
  · isplitr; · iexact HI
    isplitl [Hc]; · iexact Hc
    isplitl [HO]; · iexact HO
    isplitr
    · iapply (mayWait c (.reg barS) l hl); iapply (ctx_lev m K); iexact HK
    iexact Ha
  iintro ⟨HO, Ha, -, Hp⟩
  ihave Hp := (Entails.of_eq (show bigSep ((sched m).duties ((c : Thread nD τ), .reg barS) 0 \ ∅) (fun d => (sched m).payload ((c : Thread nD τ), .reg barS) 0 d)
    = iprop(pay m (.bar 0) c ∗ pay m (.bar 1) c ∗ pay m (.bar 2) c) from rest_bar m c 0)) $$ Hp
  imod (Rounds.cell_close ER (sched m) (Set.mem_univ (K (c, 0))) (fun h => h) (R := 0 + 1) (duties_later m (cell c (.bar 0)))) $$ [Ha] with Hz
  · isplitr; · iexact HI
    iexact Ha
  iapply Hk
  isplitl [HO]; · iexists _; iexact HO
  isplitl [Hp]; · iexact Hp
  iexact Hz

/-- The wait for a copy: what it hands over, and its semaphore back at zero. -/
theorem step_wait (c : Dev nD) {k : Kind} (hb : k.isBar = false) (l : List Kind) (hl : ∀ k' ∈ l, slv k.sem < slv k'.sem)
    {s : Shape} {e : EltTy} {sp sp' : Space} {s' : Shape} {e' : EltTy} {sem : DmaSem sig} (hs : k.sem = .dma sem)
    {src : Memref sig .tc sp' s' e'} {dst : Memref sig .tc sp s e} {hsrc : src.view.WordExact} {hdst : dst.view.WordExact}
    (hN : dst.view.dmaCredit = NB)
    {α : Type} {Q : α → sProp 𝕄} {p : PUnit → Prog (TpuEff nD τ sig (Elt F) Λ₀ .tc) α} :
    iprop(ctx m K ∗ owing c l ∗ hold c k)
      ⊢ iprop(((owing c l ∗ pay m k c ∗ fin c k) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sem src dst hsrc hdst) p) Q) := by
  unfold owing hold at0 crd fin
  have hcl : cell c k = ((c : Thread nD τ), .dma sem) := by unfold cell; rw [hs]
  iintro ⟨#HK, ⟨%W, HO⟩, Ha, Hc⟩ Hk
  ihave #HI := (ctx_inv m K c k) $$ HK
  ihave Hl := (ctx_lev m K) $$ HK
  ihave Hm := (mayWait c k.sem l hl) $$ Hl
  have hrest := rest_one m c hb
  have hexp := expect_one m c hb
  have hlat := duties_later (F := F) m (cell c k)
  rw [hcl] at hrest hexp hlat ⊢
  rw [hs]
  iapply (Rounds.wp_wait_rest_token 𝒱₀ ER (sched m) (c : Thread nD τ) none (κ := K (c, k.idx))
      (wpE_waitDma2_eq 𝒱₀ (c : Thread nD τ) none Set.univ) (Set.mem_univ _) () (O := owedL c l) (W := W) (R := 0) (m := 0) (T := ∅)
      (by rw [Nat.zero_add, hexp, hN])) $$ [HO Ha Hc Hm]
  · isplitr; · iexact HI
    isplitl [Hc]; · rw [hN]; iexact Hc
    isplitl [HO]; · iexact HO
    isplitl [Hm]; · iexact Hm
    iexact Ha
  iintro ⟨HO, Ha, -, Hp⟩
  ihave Hp := (Entails.of_eq hrest) $$ Hp
  imod (Rounds.cell_close ER (sched m) (Set.mem_univ (K (c, k.idx))) (fun h => h) (R := 0 + 1) hlat) $$ [Ha] with Hz
  · isplitr; · iexact HI
    iexact Ha
  iapply Hk
  isplitl [HO]; · iexists _; iexact HO
  isplitl [Hp]; · iexact Hp
  iexact Hz

/-- A copy to another device: its two payments are the source's share, lent until the copy has been read, and the
    destination written. -/
theorem step_send (c n : Dev nD) {kS kR : Kind} (hS : kS.isBar = false) (hR : kR.isBar = false) (hself : kS.dst c = c) (hn : n = kR.dst c)
    (l : List Kind) {s : Shape} {e : EltTy} {sp sp' : Space} {semS semR : DmaSem sig} (hsS : kS.sem = .dma semS) (hsR : kR.sem = .dma semR)
    {src : Memref sig .tc sp s e} {dst : Memref sig .tc sp' s e} {hsc : dst.view.ref.isScScratch = false}
    {hsrc : src.view.WordExact} {hdst : dst.view.WordExact} {hsem : DmaTarget.Typed sp (.dma semR) (.remote (n : Thread nD τ) dst (.dma semS) hsc)}
    (hN : dst.view.amount (.dma semR) = NB) (q : PosShare TreeShare)
    (fs : Buf (Elt F) (src.view.loc (c : Thread nD τ))) (fd : Buf (Elt F) (dst.view.loc (n : Thread nD τ)))
    (h1 : (src.view.loc (c : Thread nD τ) ↦[src.view.set]{q} fs) ⊢ pay m kS c)
    (h2 : (dst.view.loc (n : Thread nD τ) ↦[dst.view.set]{fullShare} (dst.view.write (Elt F) fd (src.view.read (Elt F) fs) Finset.univ)) ⊢ pay m kR n)
    {α : Type} {Q : α → sProp 𝕄} {p : PUnit → Prog (TpuEff nD τ sig (Elt F) Λ₀ .tc) α} :
    iprop(ctx m K ∗ owing c (kR :: l) ∗ hop c kS kR ∗ (src.view.loc (c : Thread nD τ) ↦[src.view.set]{q} fs) ∗ (dst.view.loc (n : Thread nD τ) ↦[dst.view.set]{fullShare} fd))
      ⊢ iprop(((owing c l ∗ hold c kS ∗ hold c kR) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (n : Thread nD τ) dst (.dma semS) hsc) (.dma semR) hsrc hdst hsem) p) Q) := by
  subst hn
  have hcS : pcell c kS = ((c : Thread nD τ), .dma semS) := by unfold pcell cell; rw [hsS, hself]
  have hcS' : cell c kS = ((c : Thread nD τ), .dma semS) := by unfold cell; rw [hsS]
  have hcR : pcell c kR = ((kR.dst c : Thread nD τ), .dma semR) := by unfold pcell cell; rw [hsR]
  have hdS := mem_duties (F := F) m c kS
  have hdR := mem_duties (F := F) m (kR.dst c) kR
  rw [hcS'] at hdS
  rw [show cell (kR.dst c) kR = _ from hcR] at hdR
  unfold owing hop hold
  iintro ⟨#HK, ⟨%W, HO⟩, ⟨HaS, HaR, HtS, HtR, HcR⟩, Hsrc, Hdst⟩ Hk
  ihave HIS := (ctx_inv m K c kS) $$ HK
  ihave HIR := (ctx_inv m K (kR.dst c) kR) $$ HK
  ihave HrS := (ctx_reached m K c kS) $$ HK
  ihave HrR := (ctx_reached m K (kR.dst c) kR) $$ HK
  iapply (Rounds.wp_send_pointsTo 𝒱₀ ER (sched m) (c : Thread nD τ) none (κ₁ := K (c, kS.idx)) (κ₂ := K (kR.dst c, kR.idx))
    (r₁ := 0) (r₂ := 0) (d₁ := kS) (d₂ := kR) (fd := fd) hdS hdR () () NB hN (Kind.amt_of hS) (Kind.amt_of hR) (owedL c l)
    (by show owedL c l + tallyAt (pcell c kR) () kR.amt = _; rw [hcR, Kind.amt_of hR]) (W := W) h1 h2) $$ [HO HtS HtR Hsrc Hdst HIS HIR HrS HrR]
  · rw [← hcS', ← hcR]
    isplitl [HIS]; · iexact HIS
    isplitl [HIR]; · iexact HIR
    isplitl [Hsrc]; · iexact Hsrc
    isplitl [Hdst]; · iexact Hdst
    isplitl [HO]; · iexact HO
    isplitl [HtS]; · unfold tok pcell; rw [hself]; iexact HtS
    isplitl [HrS]; · iexact HrS
    isplitl [HtR]; · unfold tok; iexact HtR
    iexact HrR
  iintro ⟨HcS, HO⟩
  iapply Hk
  isplitl [HO]; · iexists _; iexact HO
  isplitl [HaS HcS]
  · isplitl [HaS]; · iexact HaS
    unfold crd; rw [hcS']; iexact HcS
  isplitl [HaR] <;> iassumption

end Cert.KernelIdeal.Ring

end
-- ==== Proof.KernelIdeal.Moves.lean ====
/-
The moves of the kernel body: a hop of a finished block to a neighbour, its arrival, the read of an arrived block and
the write of a block of the result. Each is stated once for any hop or block.
-/
module

public import proofs.«01_k».proof.Proof.KernelIdeal.Steps

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- Slot `q` on device `c` holding its finished block, at a share. -/
abbrev full (c : Dev nD) (q : Fin 8) (sh : PosShare TreeShare) : sProp 𝕄 := slotPts c q sh (blks m c)

/-! ## Hops -/

/-- Copying slot `q` onto the same slot of another device's buffer leaves the sender's block there. -/
theorem slot_written (c : Dev nD) (q : Fin 8) (fd fs : (cc0_scratch0 : Ref sig .tc).ty.Contents (Elt F)) (n : Dev nD) :
    (((n : Thread nD τ).loc cc0_scratch0) ↦[slotSet q]{fullShare}
        ((slotM (slotOff q) (slotOff_inb q)).view.write (Elt F) fd ((slotM (slotOff q) (slotOff_inb q)).view.read (Elt F) fs) Finset.univ) : sProp 𝕄)
      = slotPts n q fullShare fs := by
  unfold slotPts
  refine pointsTo_congr fun i hi => ?_
  rw [View.write_read_eq_piecewise]
  exact Finset.piecewise_eq_of_mem _ _ _ hi

/-- A hop: slot `q`'s block goes to the same slot of a neighbour's buffer. -/
theorem step_hop (c n : Dev nD) {kS kR : Kind} (hS : kS.isBar = false) (hR : kR.isBar = false) (hself : kS.dst c = c) (hn : n = kR.dst c)
    (l : List Kind) {semS semR : DmaSem sig} (hsS : kS.sem = .dma semS) (hsR : kR.sem = .dma semR)
    (q : Fin 8) (sh : PosShare TreeShare) {off : Fin 3 → Nat} {hoff : ∀ a, off a + S1x512x512.size a ≤ S8x512x512.size a} (ho : off = slotOff q)
    (h1 : pay m kS c = full m c q sh) (h2 : pay m kR n = full m n q fullShare) (hb : blks m n = blks m c)
    {hsc : (slotM off hoff).view.ref.isScScratch = false}
    {hsrc : (slotM off hoff).view.WordExact} {hdst : (slotM off hoff).view.WordExact}
    {hsem : DmaTarget.Typed .vmem (.dma semR) (.remote (n : Thread nD τ) (slotM off hoff) (.dma semS) hsc)}
    {α : Type} {Q : α → sProp 𝕄} {p : PUnit → Prog (TpuEff nD τ sig (Elt F) Λ₀ .tc) α} :
    iprop(ctx m K ∗ owing c (kR :: l) ∗ hop c kS kR ∗ full m c q sh ∗ land n q)
      ⊢ iprop(((owing c l ∗ hold c kS ∗ hold c kR) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma (slotM off hoff) (.remote (n : Thread nD τ) (slotM off hoff) (.dma semS) hsc) (.dma semR) hsrc hdst hsem) p) Q) := by
  subst ho
  unfold land
  iintro ⟨#HK, HO, Hh, Hs, ⟨%fd, Hd⟩⟩ Hk
  iapply (step_send m K c n hS hR hself hn l hsS hsR (slot_credit _ _) sh (blks m c) fd
    (Entails.of_eq (by rw [h1]; rfl))
    (Entails.of_eq (by rw [h2, ← hb]; exact slot_written c q fd (blks m n) n))) $$ [HO Hh Hs Hd]
  · isplitr; · iexact HK
    isplitl [HO]; · iexact HO
    isplitl [Hh]; · iexact Hh
    isplitl [Hs]; · unfold full slotPts; iexact Hs
    unfold slotPts; iexact Hd
  iexact Hk

/-- The forward hop `h`. -/
theorem step_fwd (c n : Dev nD) (h : Fin 4) (a : ℕ) (ha : h.val = a) (hn : n = nxt c) (l : List Kind) {semS semR : DmaSem sig}
    (hsS : (Kind.fs h).sem = .dma semS) (hsR : (Kind.fr h).sem = .dma semR)
    {off : Fin 3 → Nat} {hoff : ∀ a, off a + S1x512x512.size a ≤ S8x512x512.size a} (ho : off = slotOff (fslot c a))
    {hsc : (slotM off hoff).view.ref.isScScratch = false}
    {hsrc : (slotM off hoff).view.WordExact} {hdst : (slotM off hoff).view.WordExact}
    {hsem : DmaTarget.Typed .vmem (.dma semR) (.remote (n : Thread nD τ) (slotM off hoff) (.dma semS) hsc)}
    {α : Type} {Q : α → sProp 𝕄} {p : PUnit → Prog (TpuEff nD τ sig (Elt F) Λ₀ .tc) α} :
    iprop(ctx m K ∗ owing c (.fr h :: l) ∗ hop c (.fs h) (.fr h) ∗ full m c (fslot c a) shA ∗ land (nxt c) (fslot c a))
      ⊢ iprop(((owing c l ∗ hold c (.fs h) ∗ hold c (.fr h)) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma (slotM off hoff) (.remote (n : Thread nD τ) (slotM off hoff) (.dma semS) hsc) (.dma semR) hsrc hdst hsem) p) Q) := by
  subst hn ha
  exact step_hop m K c (nxt c) rfl rfl rfl rfl l hsS hsR (fslot c h.val) shA ho rfl
    (by show slotPts (nxt c) (fslot (nxt c) (h.val + 1)) fullShare (blks m (nxt c)) = _; rw [fslot_nxt]) (blks_nxt m c)

/-- The backward hop `h`. -/
theorem step_bwd (c n : Dev nD) (h : Fin 3) (a : ℕ) (ha : h.val = a) (hn : n = prv c) (l : List Kind) {semS semR : DmaSem sig}
    (hsS : (Kind.bs h).sem = .dma semS) (hsR : (Kind.br h).sem = .dma semR)
    {off : Fin 3 → Nat} {hoff : ∀ a, off a + S1x512x512.size a ≤ S8x512x512.size a} (ho : off = slotOff (bslot c a))
    {hsc : (slotM off hoff).view.ref.isScScratch = false}
    {hsrc : (slotM off hoff).view.WordExact} {hdst : (slotM off hoff).view.WordExact}
    {hsem : DmaTarget.Typed .vmem (.dma semR) (.remote (n : Thread nD τ) (slotM off hoff) (.dma semS) hsc)}
    {α : Type} {Q : α → sProp 𝕄} {p : PUnit → Prog (TpuEff nD τ sig (Elt F) Λ₀ .tc) α} :
    iprop(ctx m K ∗ owing c (.br h :: l) ∗ hop c (.bs h) (.br h) ∗ full m c (bslot c a) shB ∗ land (prv c) (bslot c a))
      ⊢ iprop(((owing c l ∗ hold c (.bs h) ∗ hold c (.br h)) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma (slotM off hoff) (.remote (n : Thread nD τ) (slotM off hoff) (.dma semS) hsc) (.dma semR) hsrc hdst hsem) p) Q) := by
  subst hn ha
  exact step_hop m K c (prv c) rfl rfl rfl rfl l hsS hsR (bslot c h.val) shB ho rfl
    (by show slotPts (prv c) (bslot (prv c) (h.val + 1)) fullShare (blks m (prv c)) = _; rw [bslot_prv]) (blks_prv m c)

/-- The arrival of a block: its slot, in the three shares. -/
theorem step_recv (c : Dev nD) {k : Kind} (hb : k.isBar = false) (l : List Kind) (hl : ∀ k' ∈ l, slv k.sem < slv k'.sem)
    (q : Fin 8) (hp : pay m k c = full m c q fullShare)
    {s : Shape} {e : EltTy} {sp sp' : Space} {s' : Shape} {e' : EltTy} {sem : DmaSem sig} (hs : k.sem = .dma sem)
    {src : Memref sig .tc sp' s' e'} {dst : Memref sig .tc sp s e} {hsrc : src.view.WordExact} {hdst : dst.view.WordExact}
    (hN : dst.view.dmaCredit = NB)
    {α : Type} {Q : α → sProp 𝕄} {p : PUnit → Prog (TpuEff nD τ sig (Elt F) Λ₀ .tc) α} :
    iprop(ctx m K ∗ owing c l ∗ hold c k)
      ⊢ iprop(((owing c l ∗ (full m c q shA ∗ full m c q shB ∗ full m c q shR) ∗ fin c k) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sem src dst hsrc hdst) p) Q) := by
  iintro H Hk
  iapply (step_wait m K c hb l hl hs hN) $$ H
  iintro ⟨HO, Hp, Hf⟩
  iapply Hk
  isplitl [HO]; · iexact HO
  isplitl [Hp]
  · iapply (slotPts_shares c q (blks m c)).1
    iapply (Entails.of_eq hp); iexact Hp
  iexact Hf

/-- The end of a departure: the piece of the slot that was lent to it comes back. -/
theorem step_done (c : Dev nD) {k : Kind} (hb : k.isBar = false) (q : Fin 8) (sh : PosShare TreeShare) (hp : pay m k c = full m c q sh)
    {s : Shape} {e : EltTy} {sp sp' : Space} {s' : Shape} {e' : EltTy} {sem : DmaSem sig} (hs : k.sem = .dma sem)
    {src : Memref sig .tc sp' s' e'} {dst : Memref sig .tc sp s e} {hsrc : src.view.WordExact} {hdst : dst.view.WordExact}
    (hN : dst.view.dmaCredit = NB)
    {α : Type} {Q : α → sProp 𝕄} {p : PUnit → Prog (TpuEff nD τ sig (Elt F) Λ₀ .tc) α} :
    iprop(ctx m K ∗ owing c [] ∗ hold c k)
      ⊢ iprop(((owing c [] ∗ full m c q sh ∗ fin c k) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sem src dst hsrc hdst) p) Q) := by
  iintro H Hk
  iapply (step_wait m K c hb [] (fun _ h => absurd h List.not_mem_nil) hs hN) $$ H
  iintro ⟨HO, Hp, Hf⟩
  iapply Hk
  isplitl [HO]; · iexact HO
  isplitl [Hp]; · iapply (Entails.of_eq hp); iexact Hp
  iexact Hf

/-! ## Loads and stores -/

/-- Row block `q` of the buffer of eight blocks, as a rectangle. -/
abbrev slotRect (off : Fin 3 → Nat) (h : ∀ a, off a + S1x512x512.size a ≤ S8x512x512.size a) : Rect S8x512x512 :=
  Rect.unit (s := S8x512x512) off S1x512x512.size h

theorem slotRect_set (q : Fin 8) (h) : ((kM : Memref sig .tc .vmem S8x512x512 .bf16).access (slotRect (slotOff q) h)).set = slotSet q :=
  ((View.set_reshape _ _).symm : _ = ((slotM (slotOff q) (slotOff_inb q)).view.set))

/-- Block `q` read out of the buffer of eight is the block of the device at place `q`. -/
theorem blks_read (c : Dev nD) (q : Fin 8) (h) :
    (kM : Memref sig .tc .vmem S8x512x512 .bf16).view.readAt (Elt F) (slotRect (slotOff q) h).toLoadRect (blks m c) = blkAt m (ofPlace c q) := by
  funext x
  have hx0 : (x 0).val < 1 := (x 0).isLt
  have hv (a) : (((slotRect (slotOff q) h).idx x a : Fin _) : Nat) = slotOff q a + x a := ValueKit.rect_emb_unit_val _ _ _ x a
  show blks m c ((slotRect (slotOff q) h).idx x) = _
  unfold blks
  have e0 : (⟨((slotRect (slotOff q) h).idx x 0).val, ((slotRect (slotOff q) h).idx x 0).isLt⟩ : Fin 8) = q := by
    refine Fin.ext ?_
    show ((slotRect (slotOff q) h).idx x 0).val = q.val
    rw [hv 0]; show q.val + (x 0).val = q.val; omega
  rw [e0]
  refine congrArg (blkAt m (ofPlace c q)) (funext fun a => ?_)
  match a with
  | ⟨0, _⟩ => exact Fin.ext (by show 0 = (x 0).val; omega)
  | ⟨1, _⟩ => exact Fin.ext ((hv 1).trans (Nat.zero_add _))
  | ⟨2, _⟩ => exact Fin.ext ((hv 2).trans (Nat.zero_add _))

/-- Storing device `c`'s finished block in its own slot. -/
theorem blks_write (c : Dev nD) (h) (f : (cc0_scratch0 : Ref sig .tc).ty.Contents (Elt F)) :
    (((c : Thread nD τ).loc cc0_scratch0) ↦[slotSet (pos c)]{fullShare}
        (((kM : Memref sig .tc .vmem S8x512x512 .bf16).access (slotRect (slotOff (pos c)) h)).write (Elt F) f (blkAt m c) Finset.univ) : sProp 𝕄)
      = full m c (pos c) fullShare := by
  unfold full slotPts
  refine pointsTo_congr fun i hi => ?_
  have hi' : i ∈ ((kM : Memref sig .tc .vmem S8x512x512 .bf16).access (slotRect (slotOff (pos c)) h)).set := by rw [slotRect_set]; exact hi
  obtain ⟨x, -, rfl⟩ := Finset.mem_map.mp hi'
  rw [View.write_emb_of_mem _ _ (Finset.mem_univ x)]
  have h2 := congrFun (blks_read m c (pos c) h) x
  rw [ofPlace_pos] at h2
  exact h2.symm

/-- The read of an arrived block. -/
theorem step_block (c : Dev nD) (q : Fin 8) {off : Fin 3 → Nat} {h : ∀ a, off a + S1x512x512.size a ≤ S8x512x512.size a} (ho : off = slotOff q)
    {hl : (kM : Memref sig .tc .vmem S8x512x512 .bf16).view.LoadsAt (slotRect off h).toLoadRect}
    {α : Type} {Q : α → sProp 𝕄} {p : Vec F S1x512x512 .bf16 → Prog (TpuEff nD τ sig (Elt F) Λ₀ .tc) α} :
    blksPts c shR (blks m c)
      ⊢ iprop((blksPts c shR (blks m c) -∗ wp frame (wpE (defs₀ (F := F)) 𝒱₀ (c : Thread nD τ) none) Set.univ (p (blkAt m (ofPlace c q))) Q)
          -∗ wp frame (wpE (defs₀ (F := F)) 𝒱₀ (c : Thread nD τ) none) Set.univ (.op (.load kM (slotRect off h).toLoadRect hl) p) Q) := by
  subst ho
  unfold blksPts
  iintro H Hk
  iapply (wp_load 𝒱₀ (c : Thread nD τ) none Set.univ (m := kM) (Finset.subset_univ _)) $$ H
  rw [blks_read]
  iexact Hk

/-- The result on device `c`, block `q` of columns being the block of the device at place `q`. -/
def outAt (c : Dev nD) : (cc0_stg2_0 : Ref sig .tc).ty.Contents (Elt F) :=
  fun i : S512x4096.Idx => k0_pay6 (blkAt m (ofPlace c ⟨(i 1).val / 512, Nat.div_lt_of_lt_mul (i 1).isLt⟩))
    (fun | ⟨0, _⟩ => i 0 | ⟨1, _⟩ => (⟨(i 1).val % 512, Nat.mod_lt _ (by decide)⟩ : Fin 512))

/-- The result with its first `n` blocks of columns written. -/
def outUpTo (c : Dev nD) (n : ℕ) (f : (cc0_stg2_0 : Ref sig .tc).ty.Contents (Elt F)) : (cc0_stg2_0 : Ref sig .tc).ty.Contents (Elt F) :=
  fun i : S512x4096.Idx => if (i 1).val < 512 * n then outAt m c i else f i

theorem outUpTo_zero (c : Dev nD) (f) : outUpTo m c 0 f = f := funext fun i => if_neg (by omega)
theorem outUpTo_eight (c : Dev nD) (f) : outUpTo m c 8 f = outAt m c := by
  refine funext fun i : S512x4096.Idx => if_pos ?_
  have : (i 1).val < 4096 := (i 1).isLt
  omega

/-- Writing block `q` of columns. -/
theorem out_write (c : Dev nD) (q : Fin 8) (h : ∀ a, (![0, 512 * q.val] : Fin 2 → Nat) a + S512x512.size a ≤ S512x4096.size a) (f) :
    ((oM : Memref sig .tc .vmem S512x4096 .f32).access (Rect.unit (s := S512x4096) ![0, 512 * q.val] S512x512.size h)).write (Elt F) (outUpTo m c q.val f)
        (k0_pay6 (blkAt m (ofPlace c q))) Finset.univ = outUpTo m c (q.val + 1) f := by
  funext i
  by_cases hi : i ∈ ((oM : Memref sig .tc .vmem S512x4096 .f32).access (Rect.unit (s := S512x4096) ![0, 512 * q.val] S512x512.size h)).set
  · obtain ⟨x, -, rfl⟩ := Finset.mem_map.mp hi
    rw [View.write_emb_of_mem _ _ (Finset.mem_univ x)]
    have hv (a) : (((((oM : Memref sig .tc .vmem S512x4096 .f32).access (Rect.unit (s := S512x4096) ![0, 512 * q.val] S512x512.size h)).emb x) a : Fin _) : Nat) = (![0, 512 * q.val] : Fin 2 → Nat) a + x a :=
      ValueKit.view_emb_slice_whole_unit_val cc0_stg2_0 _ _ h x a
    generalize ((oM : Memref sig .tc .vmem S512x4096 .f32).access (Rect.unit (s := S512x4096) ![0, 512 * q.val] S512x512.size h)).emb x = j at hv ⊢
    have h0 : (j 0).val = (x 0).val := (hv 0).trans (Nat.zero_add _)
    have h1 : (j 1).val = 512 * q.val + (x 1).val := hv 1
    have hx : (x 1).val < 512 := (x 1).isLt
    show k0_pay6 (blkAt m (ofPlace c q)) x = outUpTo m c (q.val + 1) f j
    unfold outUpTo
    rw [if_pos (by omega)]
    unfold outAt
    have eq : (⟨(j 1).val / 512, Nat.div_lt_of_lt_mul (j 1).isLt⟩ : Fin 8) = q := Fin.ext (by show (j 1).val / 512 = q.val; omega)
    rw [eq]
    refine congrArg (k0_pay6 (blkAt m (ofPlace c q))) (funext fun a => ?_)
    match a with
    | ⟨0, _⟩ => exact Fin.ext h0.symm
    | ⟨1, _⟩ => exact Fin.ext (by show (x 1).val = (j 1).val % 512; omega)
  · rw [View.write_of_not_mem _ _ _ hi]
    have hn : ¬ (512 * q.val ≤ (i 1).val ∧ (i 1).val < 512 * q.val + 512) := fun hh => hi <| by
      refine (ValueKit.mem_set_slice_whole_iff cc0_stg2_0 _ i Rect.mem_set_unit).mpr fun a => ?_
      match a with
      | ⟨0, _⟩ => exact ⟨Nat.zero_le _, by show (i 0).val < 0 + 512; have : (i 0).val < 512 := (i 0).isLt; omega⟩
      | ⟨1, _⟩ => exact hh
    unfold outUpTo
    by_cases h1 : (i 1).val < 512 * q.val
    · rw [if_pos h1, if_pos (by omega)]
    · rw [if_neg h1, if_neg (by omega)]

/-- The result's staging buffer on device `c`. -/
def outPts (c : Dev nD) (f : Buf (Elt F) ((c : Thread nD τ).loc cc0_stg2_0)) : sProp 𝕄 := ((c : Thread nD τ).loc cc0_stg2_0) ↦{fullShare} f

/-- The write of block `q` of the result (after a read of what was there, which nothing uses). -/
theorem step_out (c : Dev nD) (q : Fin 8) (a : ℕ) (ha : q.val = a) (f) {off : Fin 2 → Nat} {h : ∀ a, off a + S512x512.size a ≤ S512x4096.size a} (ho : off = ![0, 512 * a])
    {w : Vec F S512x512 .f32} (hw : w = k0_pay6 (blkAt m (ofPlace c q)))
    {hl : (oM : Memref sig .tc .vmem S512x4096 .f32).view.LoadsAt (Rect.unit (s := S512x4096) off S512x512.size h).toLoadRect}
    {hx : ((oM : Memref sig .tc .vmem S512x4096 .f32).access (Rect.unit (s := S512x4096) off S512x512.size h)).Stores Finset.univ} {hm}
    {α : Type} {Q : α → sProp 𝕄} {p : PUnit → Prog (TpuEff nD τ sig (Elt F) Λ₀ .tc) α} :
    outPts c (outUpTo m c a f)
      ⊢ iprop((outPts c (outUpTo m c (a + 1) f) -∗ wp frame (wpE (defs₀ (F := F)) 𝒱₀ (c : Thread nD τ) none) Set.univ (p ⟨⟩) Q)
          -∗ wp frame (wpE (defs₀ (F := F)) 𝒱₀ (c : Thread nD τ) none) Set.univ (.op (.load oM (Rect.unit (s := S512x4096) off S512x512.size h).toLoadRect hl)
              (fun _ => .op (.store oM (Rect.unit (s := S512x4096) off S512x512.size h) w Finset.univ hx hm) p)) Q) := by
  subst ho hw ha
  unfold outPts
  iintro H Hk
  iapply (wp_load 𝒱₀ (c : Thread nD τ) none Set.univ (m := oM) (Finset.subset_univ _)) $$ H
  iintro H
  iapply (wp_store 𝒱₀ (c : Thread nD τ) none Set.univ (m := oM) (r := Rect.unit (s := S512x4096) ![0, 512 * q.val] S512x512.size h) (Mk := Finset.univ) (Finset.subset_univ _)) $$ H
  rw [out_write]
  iexact Hk

end Cert.KernelIdeal.Ring

end
-- ==== Proof.KernelIdeal.Body.lean ====
/-
The kernel body, part by part: what each printed part needs and what it leaves, executed with the moves.
-/
module

public import proofs.«01_k».proof.Proof.KernelIdeal.Moves

@[expose] public section

set_option maxRecDepth 16384
set_option maxHeartbeats 1000000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- The staged block of `x` on device `c`. -/
def xPts (c : Dev nD) : sProp 𝕄 := ((c : Thread nD τ).loc cc0_stg0_0) ↦{fullShare} xstg m c
/-- The staged block of `dy`. -/
def yPts (c : Dev nD) : sProp 𝕄 := ((c : Thread nD τ).loc cc0_stg1_0) ↦{fullShare} ystg m c

/-- The offset of a whole buffer is zero on both axes. -/
theorem origin_zero : ![0, 0] = (fun _ : Fin 2 => (0 : ℕ)) := by decide

/-- The exchange with the partner: the half product goes from the sending buffer to the partner's receiving buffer. -/
theorem step_exchange (c n : Dev nD) (hn : n = peer c) (l : List Kind) {semS semR : DmaSem sig}
    (hsS : Kind.xs.sem = .dma semS) (hsR : Kind.xr.sem = .dma semR)
    {hsc : (rM : Memref sig .tc .vmem S512x512 .bf16).view.ref.isScScratch = false}
    {hsrc : (sM : Memref sig .tc .vmem S512x512 .bf16).view.WordExact} {hdst : (rM : Memref sig .tc .vmem S512x512 .bf16).view.WordExact}
    {hsem : DmaTarget.Typed .vmem (.dma semR) (.remote (n : Thread nD τ) (rM : Memref sig .tc .vmem S512x512 .bf16) (.dma semS) hsc)}
    {α : Type} {Q : α → sProp 𝕄} {p : PUnit → Prog (TpuEff nD τ sig (Elt F) Λ₀ .tc) α} :
    iprop(ctx m K ∗ owing c (.xr :: l) ∗ hop c .xs .xr ∗ sndPts c (sentAt m c) ∗ (∃ f, rcvPts (peer c) f))
      ⊢ iprop(((owing c l ∗ hold c .xs ∗ hold c .xr) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma sM (.remote (n : Thread nD τ) rM (.dma semS) hsc) (.dma semR) hsrc hdst hsem) p) Q) := by
  subst hn
  have hs : (sM : Memref sig .tc .vmem S512x512 .bf16).view.set = Finset.univ := View.set_whole _
  have hr : (rM : Memref sig .tc .vmem S512x512 .bf16).view.set = Finset.univ := View.set_whole _
  iintro ⟨#HK, HO, Hh, Hs, ⟨%fd, Hd⟩⟩ Hk
  iapply (step_send m K c (peer c) (kS := .xs) (kR := .xr) (src := sM) (dst := rM) rfl rfl rfl rfl l hsS hsR rfl fullShare (sentAt m c) fd
    (Entails.of_eq (by rw [hs]; rfl))
    (Entails.of_eq (by
      rw [hr]
      show _ = rcvPts (peer c) (sentAt m (peer (peer c)))
      rw [peer_peer]
      unfold rcvPts
      exact congrArg (fun g => (((peer c : Thread nD τ).loc cc0_scratch2) ↦{fullShare} g : sProp 𝕄)) (View.write_whole_univ cc0_scratch2 fd (sentAt m c))))) $$ [HO Hh Hs Hd]
  · isplitr; · iexact HK
    isplitl [HO]; · iexact HO
    isplitl [Hh]; · iexact Hh
    isplitl [Hs]; · rw [hs]; unfold sndPts; iexact Hs
    rw [hr]; unfold rcvPts; iexact Hd
  iexact Hk

/-- The payments still owed after the exchange: the hops, in their order. -/
abbrev hops : List Kind := [.fr 0, .br 0, .fr 1, .br 1, .fr 2, .br 2, .fr 3]

variable (c : Dev nD)

/-- Part 1 reads the device's number. -/
theorem part1_spec {Kt : _ → sProp 𝕄} {P : sProp 𝕄} (h : ∀ v2 v5 v8 v11 v17 v25 v26 v28 v29 v30 v31, P ⊢ Kt ⟨c, v2, v5, v8, v11, v17, v25, v26, v28, v29, v30, v31⟩) :
    P ⊢ wp frame (wpE (defs₀ (F := F)) 𝒱₀ (c : Thread nD τ) none) Set.univ (k0_part1 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8) Kt := by
  rw [k0_part1_eq_skeleton]; unfold k0_part1_skel
  simp only [Prog.lift, Prog.bind_op, Prog.bind_ret, Prog.pure_eq_ret, wp_deviceId, wp_ret]
  refine BIBase.Entails.trans ?_ fupd_intro
  apply h

/-- Part 2: the entry signals and the wait for the neighbours'. -/
theorem part2_spec {Kt : _ → sProp 𝕄} (v2 v5 v8 v17 v25 v26 v28 v29 v30 v31) :
    iprop(ctx m K ∗ owing c (.bar 0 :: .bar 1 :: .bar 2 :: .xr :: hops) ∗ (tok c (.bar 0) ∗ tok c (.bar 1) ∗ tok c (.bar 2))
        ∗ at0 c (.bar 0) ∗ cred (tallyAt (cell c (.bar 0)) () 3)
        ∗ (∃ f, rcvPts (F := F) c f) ∗ (land c (bslot c 1) ∗ land c (bslot c 2) ∗ land c (bslot c 3))
        ∗ (land c (fslot c 1) ∗ land c (fslot c 2) ∗ land c (fslot c 3) ∗ land c (fslot c 4))
        ∗ (∀ r, (owing c (.xr :: hops) ∗ fin c (.bar 0) ∗ (∃ f, rcvPts (F := F) (peer c) f)
            ∗ (land (prv c) (bslot c 0) ∗ land (prv c) (bslot c 1) ∗ land (prv c) (bslot c 2))
            ∗ (land (nxt c) (fslot c 0) ∗ land (nxt c) (fslot c 1) ∗ land (nxt c) (fslot c 2) ∗ land (nxt c) (fslot c 3))) -∗ Kt r))
      ⊢ wp frame (wpE (defs₀ (F := F)) 𝒱₀ (c : Thread nD τ) none) Set.univ (k0_part2 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v5 v8 v17 v25 v26 v28 v29 v30 v31) Kt := by
  rw [k0_part2_eq_skeleton]; unfold k0_part2_skel
  simp only [semSignalWord, semWaitWord, Prog.lift, Prog.bind_op, Prog.bind_ret, Prog.pure_eq_ret]
  iintro ⟨#HK, HO, ⟨Ht0, Ht1, Ht2⟩, Ha, Hc, Hr, Hb, Hf, Hk⟩
  iapply (step_signal m K c _ 0 (dev1_eq c) (.bar 1 :: .bar 2 :: .xr :: hops) (by decide)) $$ [HO Ht0 Hr]
  · isplitr; · iexact HK
    isplitl [HO]; · iexact HO
    isplitl [Ht0]; · iexact Ht0
    rw [dev1_eq]
    iapply (Entails.of_eq (show iprop(∃ f, rcvPts (F := F) c f) = pay m (.bar 0) (peer c) by
      show _ = iprop(∃ f, rcvPts (F := F) (peer (peer c)) f); rw [peer_peer]))
    iexact Hr
  iintro HO
  iapply (step_signal m K c _ 1 (dev2_eq c) (.bar 2 :: .xr :: hops) (by decide)) $$ [HO Ht1 Hb]
  · isplitr; · iexact HK
    isplitl [HO]; · iexact HO
    isplitl [Ht1]; · iexact Ht1
    rw [dev2_eq]
    iapply (Entails.of_eq (show iprop(land c (bslot c 1) ∗ land c (bslot c 2) ∗ land c (bslot c 3)) = pay m (.bar 1) (nxt c) by
      show _ = iprop(land (prv (nxt c)) (bslot (nxt c) 0) ∗ land (prv (nxt c)) (bslot (nxt c) 1) ∗ land (prv (nxt c)) (bslot (nxt c) 2))
      rw [prv_nxt, show bslot (nxt c) 0 = bslot c 1 from bslot_of_nxt c 0, show bslot (nxt c) 1 = bslot c 2 from bslot_of_nxt c 1,
        show bslot (nxt c) 2 = bslot c 3 from bslot_of_nxt c 2]))
    iexact Hb
  iintro HO
  iapply (step_signal m K c _ 2 (dev3_eq c) (.xr :: hops) (by decide)) $$ [HO Ht2 Hf]
  · isplitr; · iexact HK
    isplitl [HO]; · iexact HO
    isplitl [Ht2]; · iexact Ht2
    rw [dev3_eq]
    iapply (Entails.of_eq (show iprop(land c (fslot c 1) ∗ land c (fslot c 2) ∗ land c (fslot c 3) ∗ land c (fslot c 4)) = pay m (.bar 2) (prv c) by
      show _ = iprop(land (nxt (prv c)) (fslot (prv c) 0) ∗ land (nxt (prv c)) (fslot (prv c) 1) ∗ land (nxt (prv c)) (fslot (prv c) 2) ∗ land (nxt (prv c)) (fslot (prv c) 3))
      rw [nxt_prv, show fslot (prv c) 0 = fslot c 1 from fslot_of_prv c 0, show fslot (prv c) 1 = fslot c 2 from fslot_of_prv c 1,
        show fslot (prv c) 2 = fslot c 3 from fslot_of_prv c 2, show fslot (prv c) 3 = fslot c 4 from fslot_of_prv c 3]))
    iexact Hf
  iintro HO
  iapply (step_barrier m K c (.xr :: hops) (by decide) (by decide)) $$ [HO Ha Hc]
  · isplitr; · iexact HK
    isplitl [HO]; · iexact HO
    isplitl [Ha] <;> iassumption
  iintro ⟨HO, Hp, Hz⟩
  rw [wp_ret]; imodintro
  ispecialize Hk $$ %_
  iapply Hk
  isplitl [HO]; · iexact HO
  isplitl [Hz]; · iexact Hz
  iexact Hp

/-- Part 3: the two products, and the exchange of a half with the partner. -/
theorem part3_spec {Kt : _ → sProp 𝕄} (v2 v5 v8 v11 v17) :
    iprop(ctx m K ∗ owing c (.xr :: hops) ∗ hop c .xs .xr ∗ xPts m c ∗ yPts m c ∗ (∃ f, sndPts (F := F) c f) ∗ (∃ f, rcvPts (F := F) (peer c) f)
        ∗ ((owing c hops ∗ xPts m c ∗ yPts m c ∗ sndPts c (sentAt m c) ∗ rcvPts c (sentAt m (peer c)) ∗ fin c .xs ∗ fin c .xr)
            -∗ Kt ⟨k0_pay3 (ycols m c) (xhome m c), k0_pay4 (sentAt m (peer c))⟩))
      ⊢ wp frame (wpE (defs₀ (F := F)) 𝒱₀ (c : Thread nD τ) none) Set.univ (k0_part3 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v5 v8 v11 v17) Kt := by
  rw [k0_part3_eq_skeleton]; unfold k0_part3_skel
  simp only [Prog.lift, Prog.bind_op, Prog.bind_ret, Prog.pure_eq_ret]
  iintro ⟨#HK, HO, Hh, Hx, Hy, ⟨%f, Hs⟩, Hr, Hk⟩
  unfold xPts yPts
  iapply (wp_load 𝒱₀ (c : Thread nD τ) none Set.univ (m := yM) (Finset.subset_univ _)) $$ Hy; iintro Hy
  rw [show View.readAt (Elt F) (yM : Memref sig .tc .vmem S1024x4096 .bf16).view _ (ystg m c) = ycols m c from rfl]
  iapply (wp_load 𝒱₀ (c : Thread nD τ) none Set.univ (m := xM) (Finset.subset_univ _)) $$ Hx; iintro Hx
  rw [show View.readAt (Elt F) (xM : Memref sig .tc .vmem S1024x1024 .bf16).view _ (xstg m c) = xaway m c from rfl]
  unfold sndPts
  iapply (wp_load 𝒱₀ (c : Thread nD τ) none Set.univ (m := sM) (Finset.subset_univ _)) $$ Hs; iintro Hs
  iapply (wp_store 𝒱₀ (c : Thread nD τ) none Set.univ (m := sM) (r := Rect.unit (s := S512x512) ![0, 0] S512x512.size inb_S512x512_S512x512_0_0) (Mk := Finset.univ) (Finset.subset_univ _)) $$ Hs
  rw [show View.write (Elt F) ((sM : Memref sig .tc .vmem S512x512 .bf16).access (Rect.unit (s := S512x512) ![0, 0] S512x512.size inb_S512x512_S512x512_0_0)) f (k0_pay2 (ycols m c) (xaway m c)) Finset.univ = sentAt m c from
    Memref.write_access_unit_zero_univ (Elt F) cc0_scratch1 origin_zero _ f _]
  iintro Hs
  iapply (step_exchange m K c _ (dev4_eq c) hops rfl rfl) $$ [HO Hh Hs Hr]
  · isplitr; · iexact HK
    isplitl [HO]; · iexact HO
    isplitl [Hh]; · iexact Hh
    isplitl [Hs]; · unfold sndPts; iexact Hs
    iexact Hr
  iintro ⟨HO, HhS, HhR⟩
  iapply (wp_load 𝒱₀ (c : Thread nD τ) none Set.univ (m := xM) (Finset.subset_univ _)) $$ Hx; iintro Hx
  rw [show View.readAt (Elt F) (xM : Memref sig .tc .vmem S1024x1024 .bf16).view _ (xstg m c) = xhome m c from rfl]
  iapply (step_wait m K c (k := .xs) rfl hops (by decide) rfl (show (sM : Memref sig .tc .vmem S512x512 .bf16).view.dmaCredit = NB from rfl)) $$ [HO HhS]
  · isplitr; · iexact HK
    isplitl [HO] <;> iassumption
  iintro ⟨HO, Hs, HzS⟩
  iapply (step_wait m K c (k := .xr) rfl hops (by decide) rfl (show (rM : Memref sig .tc .vmem S512x512 .bf16).view.dmaCredit = NB from rfl)) $$ [HO HhR]
  · isplitr; · iexact HK
    isplitl [HO] <;> iassumption
  iintro ⟨HO, Hr, HzR⟩
  ihave Hs := (Entails.of_eq (show pay m .xs c = (((c : Thread nD τ).loc cc0_scratch1) ↦{fullShare} sentAt m c : sProp 𝕄) from rfl)) $$ Hs
  ihave Hr := (Entails.of_eq (show pay m .xr c = (((c : Thread nD τ).loc cc0_scratch2) ↦{fullShare} sentAt m (peer c) : sProp 𝕄) from rfl)) $$ Hr
  unfold rcvPts
  iapply (wp_load 𝒱₀ (c : Thread nD τ) none Set.univ (m := rM) (Finset.subset_univ _)) $$ Hr; iintro Hr
  rw [show View.readAt (Elt F) (rM : Memref sig .tc .vmem S512x512 .bf16).view _ (sentAt m (peer c)) = sentAt m (peer c) from
    Memref.readAt_unit_zero (Elt F) cc0_scratch2 origin_zero _ _]
  rw [wp_ret]; imodintro
  iapply Hk
  isplitl [HO]; · iexact HO
  isplitl [Hx]; · iexact Hx
  isplitl [Hy]; · iexact Hy
  isplitl [Hs]; · iexact Hs
  isplitl [Hr]; · iexact Hr
  isplitl [HzS] <;> iassumption

/-- Part 4: the finished block, stored in the device's own slot. -/
theorem part4_spec {Kt : _ → sProp 𝕄} (v11) :
    iprop(land c (fslot c 0)
        ∗ (∀ r, (full m c (fslot c 0) shA ∗ full m c (fslot c 0) shB ∗ full m c (fslot c 0) shR) -∗ Kt r))
      ⊢ wp frame (wpE (defs₀ (F := F)) 𝒱₀ (c : Thread nD τ) none) Set.univ (k0_part4 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v11 (k0_pay3 (ycols m c) (xhome m c)) (k0_pay4 (sentAt m (peer c)))) Kt := by
  rw [k0_part4_eq_skeleton]; unfold k0_part4_skel
  simp only [Prog.lift, Prog.bind_op, Prog.bind_ret, Prog.pure_eq_ret]
  rw [fslot_zero, show k0_pay5 (k0_pay3 (ycols m c) (xhome m c)) (k0_pay4 (sentAt m (peer c))) = blkAt m c from rfl]
  have hset (o : Fin 3 → Nat) (ho : o = slotOff (pos c)) (hi) : ((kM : Memref sig .tc .vmem S8x512x512 .bf16).access (slotRect o hi)).set = slotSet (pos c) := by
    subst ho; exact slotRect_set (pos c) hi
  have hwr (o : Fin 3 → Nat) (ho : o = slotOff (pos c)) (hi) (f) :
      (((c : Thread nD τ).loc cc0_scratch0) ↦[slotSet (pos c)]{fullShare}
        (((kM : Memref sig .tc .vmem S8x512x512 .bf16).access (slotRect o hi)).write (Elt F) f (blkAt m c) Finset.univ) : sProp 𝕄) = full m c (pos c) fullShare := by
    subst ho; exact blks_write m c hi f
  unfold land
  iintro ⟨⟨%f, Hs⟩, Hk⟩
  unfold slotPts
  iapply (wp_load_rect 𝒱₀ (c : Thread nD τ) none Set.univ (m := kM) (r := slotRect (k0_off4 c) (k0_off4_inb c)) (S := slotSet (pos c))
    (by rw [hset _ (off4_eq c)])) $$ Hs; iintro Hs
  iapply (wp_store 𝒱₀ (c : Thread nD τ) none Set.univ (m := kM) (r := slotRect (k0_off4 c) (k0_off4_inb c)) (Mk := Finset.univ) (S := slotSet (pos c))
    (by rw [← hset _ (off4_eq c) (k0_off4_inb c)]; exact Finset.Subset.refl _)) $$ Hs; iintro Hs
  ihave Hs := (Entails.of_eq (show iprop(View.loc (c : Thread nD τ) ((kM : Memref sig .tc .vmem S8x512x512 .bf16).access (slotRect (k0_off4 c) (k0_off4_inb c))) ↦[slotSet (pos c)]{fullShare}
      (((kM : Memref sig .tc .vmem S8x512x512 .bf16).access (slotRect (k0_off4 c) (k0_off4_inb c))).write (Elt F) f (blkAt m c) Finset.univ)) = _
    from hwr _ (off4_eq c) (k0_off4_inb c) f)) $$ Hs
  ihave Hs := (slotPts_shares c (pos c) (blks m c)).1 $$ Hs
  rw [wp_ret]; imodintro
  ispecialize Hk $$ %_
  iapply Hk
  iexact Hs

/-- Part 5 computes words that nothing uses. -/
theorem part5_spec {Kt : _ → sProp 𝕄} (v11 v125 v126 v127 v128 v129) :
    iprop(∀ r, Kt r) ⊢ wp frame (wpE (defs₀ (F := F)) 𝒱₀ (c : Thread nD τ) none) Set.univ (k0_part5 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 v11 v125 v126 v127 v128 v129) Kt := by
  rw [k0_part5_eq_skeleton]; unfold k0_part5_skel
  simp only [Prog.pure_eq_ret, wp_ret]
  iintro Hk
  imodintro
  ispecialize Hk $$ %_
  iexact Hk

/-- Part 6: the first forward hop. -/
theorem part6_spec {Kt : _ → sProp 𝕄} (v2 v17 v25 v31 v39 v167) :
    iprop(ctx m K ∗ owing c hops ∗ hop c (.fs 0) (.fr 0) ∗ full m c (fslot c 0) shA ∗ land (nxt c) (fslot c 0)
        ∗ ((owing c [.br 0, .fr 1, .br 1, .fr 2, .br 2, .fr 3] ∗ hold c (.fs 0) ∗ hold c (.fr 0)) -∗ Kt ⟨⟩))
      ⊢ wp frame (wpE (defs₀ (F := F)) 𝒱₀ (c : Thread nD τ) none) Set.univ (k0_part6 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v17 v25 v31 v39 v167) Kt := by
  rw [k0_part6_eq_skeleton]; unfold k0_part6_skel
  simp only [Prog.lift, Prog.bind_op, Prog.bind_ret, Prog.pure_eq_ret]
  iintro ⟨#HK, HO, Hh, Hs, Hd, Hk⟩
  iapply (step_fwd m K c _ 0 0 rfl (dev5_eq c) [.br 0, .fr 1, .br 1, .fr 2, .br 2, .fr 3] rfl rfl (off5_eq c 0)) $$ [HO Hh Hs Hd]
  · isplitr; · iexact HK
    isplitl [HO]; · iexact HO
    isplitl [Hh]; · iexact Hh
    isplitl [Hs] <;> iassumption
  iintro H
  rw [wp_ret]; imodintro
  iapply Hk
  iexact H

/-- Part 7: the first backward hop, the first forward arrival, the second forward hop. -/
theorem part7_spec {Kt : _ → sProp 𝕄} (v2 v17 v25) :
    iprop(ctx m K ∗ owing c [.br 0, .fr 1, .br 1, .fr 2, .br 2, .fr 3] ∗ hop c (.bs 0) (.br 0) ∗ full m c (bslot c 0) shB ∗ land (prv c) (bslot c 0)
        ∗ hold c (.fr 0) ∗ hop c (.fs 1) (.fr 1) ∗ land (nxt c) (fslot c 1)
        ∗ (∀ r, (owing c [.br 1, .fr 2, .br 2, .fr 3] ∗ hold c (.bs 0) ∗ hold c (.br 0) ∗ fin c (.fr 0) ∗ full m c (fslot c 1) shB ∗ full m c (fslot c 1) shR
            ∗ hold c (.fs 1) ∗ hold c (.fr 1)) -∗ Kt r))
      ⊢ wp frame (wpE (defs₀ (F := F)) 𝒱₀ (c : Thread nD τ) none) Set.univ (k0_part7 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v17 v25) Kt := by
  rw [k0_part7_eq_skeleton]; unfold k0_part7_skel
  simp only [Prog.lift, Prog.bind_op, Prog.bind_ret, Prog.pure_eq_ret]
  iintro ⟨#HK, HO, Hh, Hs, Hd, HhR, Hh1, Hd1, Hk⟩
  iapply (step_bwd m K c _ 0 0 rfl (dev6_eq c) [.fr 1, .br 1, .fr 2, .br 2, .fr 3] rfl rfl (off6_eq c 0)) $$ [HO Hh Hs Hd]
  · isplitr; · iexact HK
    isplitl [HO]; · iexact HO
    isplitl [Hh]; · iexact Hh
    isplitl [Hs] <;> iassumption
  iintro ⟨HO, HbS, HbR⟩
  iapply (step_recv m K c (k := .fr 0) rfl [.fr 1, .br 1, .fr 2, .br 2, .fr 3] (by decide) (fslot c 1) rfl rfl (slot_credit _ _)) $$ [HO HhR]
  · isplitr; · iexact HK
    isplitl [HO] <;> iassumption
  iintro ⟨HO, ⟨HA, HB, HR⟩, Hz⟩
  iapply (step_fwd m K c _ 1 1 rfl (dev7_eq c) [.br 1, .fr 2, .br 2, .fr 3] rfl rfl (off5_eq c 1)) $$ [HO Hh1 HA Hd1]
  · isplitr; · iexact HK
    isplitl [HO]; · iexact HO
    isplitl [Hh1]; · iexact Hh1
    isplitl [HA] <;> iassumption
  iintro ⟨HO, HfS, HfR⟩
  rw [wp_ret]; imodintro
  ispecialize Hk $$ %_
  iapply Hk
  isplitl [HO]; · iexact HO
  isplitl [HbS]; · iexact HbS
  isplitl [HbR]; · iexact HbR
  isplitl [Hz]; · iexact Hz
  isplitl [HB]; · iexact HB
  isplitl [HR]; · iexact HR
  isplitl [HfS] <;> iassumption

end Cert.KernelIdeal.Ring

end
-- ==== Proof.KernelIdeal.Hops.lean ====
/-
The kernel body, second half: the remaining hops, the blocks of the result written in order, the departures ended.
-/
module

public import proofs.«01_k».proof.Proof.KernelIdeal.Body

@[expose] public section

set_option maxRecDepth 16384
set_option maxHeartbeats 1000000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

variable (c : Dev nD)

/-- Part 8: the first backward arrival and the second backward hop. -/
theorem part8_spec {Kt : _ → sProp 𝕄} (v2 v17 v25 v31 v39 v233) :
    iprop(ctx m K ∗ owing c [.br 1, .fr 2, .br 2, .fr 3] ∗ hold c (.br 0) ∗ hop c (.bs 1) (.br 1) ∗ land (prv c) (bslot c 1)
        ∗ ((owing c [.fr 2, .br 2, .fr 3] ∗ fin c (.br 0) ∗ full m c (bslot c 1) shA ∗ full m c (bslot c 1) shR
            ∗ hold c (.bs 1) ∗ hold c (.br 1)) -∗ Kt ⟨⟩))
      ⊢ wp frame (wpE (defs₀ (F := F)) 𝒱₀ (c : Thread nD τ) none) Set.univ (k0_part8 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v17 v25 v31 v39 v233) Kt := by
  rw [k0_part8_eq_skeleton]; unfold k0_part8_skel
  simp only [Prog.lift, Prog.bind_op, Prog.bind_ret, Prog.pure_eq_ret]
  iintro ⟨#HK, HO, HhR, Hh, Hd, Hk⟩
  iapply (step_recv m K c (k := .br 0) rfl [.br 1, .fr 2, .br 2, .fr 3] (by decide) (bslot c 1) rfl rfl (slot_credit _ _)) $$ [HO HhR]
  · isplitr; · iexact HK
    isplitl [HO] <;> iassumption
  iintro ⟨HO, ⟨HA, HB, HR⟩, Hz⟩
  iapply (step_bwd m K c _ 1 1 rfl (dev8_eq c) [.fr 2, .br 2, .fr 3] rfl rfl (off6_eq c 1)) $$ [HO Hh HB Hd]
  · isplitr; · iexact HK
    isplitl [HO]; · iexact HO
    isplitl [Hh]; · iexact Hh
    isplitl [HB] <;> iassumption
  iintro ⟨HO, HbS, HbR⟩
  rw [wp_ret]; imodintro
  iapply Hk
  isplitl [HO]; · iexact HO
  isplitl [Hz]; · iexact Hz
  isplitl [HA]; · iexact HA
  isplitl [HR]; · iexact HR
  isplitl [HbS] <;> iassumption

/-- Part 9: the second forward arrival, the third forward hop, the second backward arrival. -/
theorem part9_spec {Kt : _ → sProp 𝕄} (v2 v17 v25 v31 v39) :
    iprop(ctx m K ∗ owing c [.fr 2, .br 2, .fr 3] ∗ hold c (.fr 1) ∗ hop c (.fs 2) (.fr 2) ∗ land (nxt c) (fslot c 2) ∗ hold c (.br 1)
        ∗ (∀ r, (owing c [.br 2, .fr 3] ∗ fin c (.fr 1) ∗ full m c (fslot c 2) shB ∗ full m c (fslot c 2) shR
            ∗ hold c (.fs 2) ∗ hold c (.fr 2) ∗ fin c (.br 1)
            ∗ full m c (bslot c 2) shA ∗ full m c (bslot c 2) shB ∗ full m c (bslot c 2) shR) -∗ Kt r))
      ⊢ wp frame (wpE (defs₀ (F := F)) 𝒱₀ (c : Thread nD τ) none) Set.univ (k0_part9 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v17 v25 v31 v39) Kt := by
  rw [k0_part9_eq_skeleton]; unfold k0_part9_skel
  simp only [Prog.lift, Prog.bind_op, Prog.bind_ret, Prog.pure_eq_ret]
  iintro ⟨#HK, HO, HhR, Hh, Hd, HhB, Hk⟩
  iapply (step_recv m K c (k := .fr 1) rfl [.fr 2, .br 2, .fr 3] (by decide) (fslot c 2) rfl rfl (slot_credit _ _)) $$ [HO HhR]
  · isplitr; · iexact HK
    isplitl [HO] <;> iassumption
  iintro ⟨HO, ⟨HA, HB, HR⟩, Hz⟩
  iapply (step_fwd m K c _ 2 2 rfl (dev9_eq c) [.br 2, .fr 3] rfl rfl (off5_eq c 2)) $$ [HO Hh HA Hd]
  · isplitr; · iexact HK
    isplitl [HO]; · iexact HO
    isplitl [Hh]; · iexact Hh
    isplitl [HA] <;> iassumption
  iintro ⟨HO, HfS, HfR⟩
  iapply (step_recv m K c (k := .br 1) rfl [.br 2, .fr 3] (by decide) (bslot c 2) rfl rfl (slot_credit _ _)) $$ [HO HhB]
  · isplitr; · iexact HK
    isplitl [HO] <;> iassumption
  iintro ⟨HO, HS, HzB⟩
  rw [wp_ret]; imodintro
  ispecialize Hk $$ %_
  iapply Hk
  isplitl [HO]; · iexact HO
  isplitl [Hz]; · iexact Hz
  isplitl [HB]; · iexact HB
  isplitl [HR]; · iexact HR
  isplitl [HfS]; · iexact HfS
  isplitl [HfR]; · iexact HfR
  isplitl [HzB] <;> iassumption

/-- Part 10: the third backward hop and the third forward arrival. -/
theorem part10_spec {Kt : _ → sProp 𝕄} (v2 v17 v25 v31 v39 v297 v298) :
    iprop(ctx m K ∗ owing c [.br 2, .fr 3] ∗ hop c (.bs 2) (.br 2) ∗ full m c (bslot c 2) shB ∗ land (prv c) (bslot c 2) ∗ hold c (.fr 2)
        ∗ ((owing c [.fr 3] ∗ hold c (.bs 2) ∗ hold c (.br 2) ∗ fin c (.fr 2)
            ∗ full m c (fslot c 3) shA ∗ full m c (fslot c 3) shB ∗ full m c (fslot c 3) shR) -∗ Kt ⟨⟩))
      ⊢ wp frame (wpE (defs₀ (F := F)) 𝒱₀ (c : Thread nD τ) none) Set.univ (k0_part10 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v17 v25 v31 v39 v297 v298) Kt := by
  rw [k0_part10_eq_skeleton]; unfold k0_part10_skel
  simp only [Prog.lift, Prog.bind_op, Prog.bind_ret, Prog.pure_eq_ret]
  iintro ⟨#HK, HO, Hh, Hs, Hd, HhR, Hk⟩
  iapply (step_bwd m K c _ 2 2 rfl (dev10_eq c) [.fr 3] rfl rfl (off6_eq c 2)) $$ [HO Hh Hs Hd]
  · isplitr; · iexact HK
    isplitl [HO]; · iexact HO
    isplitl [Hh]; · iexact Hh
    isplitl [Hs] <;> iassumption
  iintro ⟨HO, HbS, HbR⟩
  iapply (step_recv m K c (k := .fr 2) rfl [.fr 3] (by decide) (fslot c 3) rfl rfl (slot_credit _ _)) $$ [HO HhR]
  · isplitr; · iexact HK
    isplitl [HO] <;> iassumption
  iintro ⟨HO, HS, Hz⟩
  rw [wp_ret]; imodintro
  iapply Hk
  isplitl [HO]; · iexact HO
  isplitl [HbS]; · iexact HbS
  isplitl [HbR]; · iexact HbR
  isplitl [Hz] <;> iassumption

/-- The read pieces of the eight slots are the whole buffer, held for reading. -/
theorem read_join :
    iprop(full m c (fslot c 0) shR ∗ full m c (fslot c 1) shR ∗ full m c (fslot c 2) shR ∗ full m c (fslot c 3) shR ∗ full m c (fslot c 4) shR
        ∗ full m c (bslot c 1) shR ∗ full m c (bslot c 2) shR ∗ full m c (bslot c 3) shR)
      = blksPts c shR (blks m c) := by
  rw [blksPts_slots, slots_from c]

/-- Part 11: the last forward hop, the last two arrivals, and the first block read. -/
theorem part11_spec {Kt : _ → sProp 𝕄} (v2 v17 v25 v31 v39) :
    iprop(ctx m K ∗ owing c [.fr 3] ∗ hop c (.fs 3) (.fr 3) ∗ full m c (fslot c 3) shA ∗ land (nxt c) (fslot c 3) ∗ hold c (.br 2)
        ∗ (full m c (fslot c 0) shR ∗ full m c (fslot c 1) shR ∗ full m c (fslot c 2) shR ∗ full m c (fslot c 3) shR
          ∗ full m c (bslot c 1) shR ∗ full m c (bslot c 2) shR)
        ∗ ((owing c [] ∗ hold c (.fs 3) ∗ fin c (.fr 3) ∗ fin c (.br 2)
            ∗ (full m c (fslot c 4) shA ∗ full m c (fslot c 4) shB) ∗ (full m c (bslot c 3) shA ∗ full m c (bslot c 3) shB)
            ∗ blksPts c shR (blks m c)) -∗ Kt (k0_pay6 (blkAt m (ofPlace c 0)))))
      ⊢ wp frame (wpE (defs₀ (F := F)) 𝒱₀ (c : Thread nD τ) none) Set.univ (k0_part11 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c v2 v17 v25 v31 v39) Kt := by
  rw [k0_part11_eq_skeleton]; unfold k0_part11_skel
  simp only [Prog.lift, Prog.bind_op, Prog.bind_ret, Prog.pure_eq_ret]
  iintro ⟨#HK, HO, Hh, Hs, Hd, HhB, ⟨HR0, HR1, HR2, HR3, HQ1, HQ2⟩, Hk⟩
  iapply (step_fwd m K c _ 3 3 rfl (dev11_eq c) [] rfl rfl (off5_eq c 3)) $$ [HO Hh Hs Hd]
  · isplitr; · iexact HK
    isplitl [HO]; · iexact HO
    isplitl [Hh]; · iexact Hh
    isplitl [Hs] <;> iassumption
  iintro ⟨HO, HfS, HfR⟩
  iapply (step_recv m K c (k := .fr 3) rfl [] (by decide) (fslot c 4) rfl rfl (slot_credit _ _)) $$ [HO HfR]
  · isplitr; · iexact HK
    isplitl [HO] <;> iassumption
  iintro ⟨HO, ⟨HA4, HB4, HR4⟩, Hz⟩
  iapply (step_recv m K c (k := .br 2) rfl [] (by decide) (bslot c 3) rfl rfl (slot_credit _ _)) $$ [HO HhB]
  · isplitr; · iexact HK
    isplitl [HO] <;> iassumption
  iintro ⟨HO, ⟨HA3, HB3, HQ3⟩, HzB⟩
  ihave HR := (Entails.of_eq (read_join m c)) $$ [HR0 HR1 HR2 HR3 HR4 HQ1 HQ2 HQ3]
  · isplitl [HR0]; · iexact HR0
    isplitl [HR1]; · iexact HR1
    isplitl [HR2]; · iexact HR2
    isplitl [HR3]; · iexact HR3
    isplitl [HR4]; · iexact HR4
    isplitl [HQ1]; · iexact HQ1
    isplitl [HQ2] <;> iassumption
  iapply (step_block m c 0 (off := ![0, 0, 0]) (by decide)) $$ HR
  iintro HR
  rw [wp_ret]; imodintro
  iapply Hk
  isplitl [HO]; · iexact HO
  isplitl [HfS]; · iexact HfS
  isplitl [Hz]; · iexact Hz
  isplitl [HzB]; · iexact HzB
  isplitl [HA4 HB4]; · isplitl [HA4] <;> iassumption
  isplitl [HA3 HB3]; · isplitl [HA3] <;> iassumption
  iexact HR

/-- Part 12: blocks `0` to `5` of the result written, and block `6` read. -/
theorem part12_spec {Kt : _ → sProp 𝕄} (f) :
    iprop(blksPts c shR (blks m c) ∗ outPts c (outUpTo m c 0 f)
        ∗ ((blksPts c shR (blks m c) ∗ outPts c (outUpTo m c 6 f)) -∗ Kt (k0_pay12 (blkAt m (ofPlace c 6)))))
      ⊢ wp frame (wpE (defs₀ (F := F)) 𝒱₀ (c : Thread nD τ) none) Set.univ (k0_part12 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 (k0_pay6 (blkAt m (ofPlace c 0)))) Kt := by
  rw [k0_part12_eq_skeleton]; unfold k0_part12_skel
  simp only [Prog.lift, Prog.bind_op, Prog.bind_ret, Prog.pure_eq_ret]
  iintro ⟨HR, Ho, Hk⟩
  iapply (step_out m c 0 0 rfl f rfl rfl) $$ Ho; iintro Ho
  iapply (step_block m c 1 rfl) $$ HR; iintro HR
  iapply (step_out m c 1 1 rfl f rfl rfl) $$ Ho; iintro Ho
  iapply (step_block m c 2 rfl) $$ HR; iintro HR
  iapply (step_out m c 2 2 rfl f rfl rfl) $$ Ho; iintro Ho
  iapply (step_block m c 3 rfl) $$ HR; iintro HR
  iapply (step_out m c 3 3 rfl f rfl rfl) $$ Ho; iintro Ho
  iapply (step_block m c 4 rfl) $$ HR; iintro HR
  iapply (step_out m c 4 4 rfl f rfl rfl) $$ Ho; iintro Ho
  iapply (step_block m c 5 rfl) $$ HR; iintro HR
  iapply (step_out m c 5 5 rfl f rfl rfl) $$ Ho; iintro Ho
  iapply (step_block m c 6 rfl) $$ HR; iintro HR
  rw [wp_ret]; imodintro
  iapply Hk
  isplitl [HR] <;> iassumption

/-- Part 13: the last two blocks of the result, and the first three departures ended. -/
theorem part13_spec {Kt : _ → sProp 𝕄} (f) :
    iprop(ctx m K ∗ owing c [] ∗ blksPts c shR (blks m c) ∗ outPts c (outUpTo m c 6 f) ∗ hold c (.fs 0) ∗ hold c (.fs 1) ∗ hold c (.fs 2)
        ∗ ((owing c [] ∗ blksPts c shR (blks m c) ∗ outPts c (outUpTo m c 8 f)
            ∗ (full m c (fslot c 0) shA ∗ full m c (fslot c 1) shA ∗ full m c (fslot c 2) shA)
            ∗ (fin c (.fs 0) ∗ fin c (.fs 1) ∗ fin c (.fs 2))) -∗ Kt ⟨⟩))
      ⊢ wp frame (wpE (defs₀ (F := F)) 𝒱₀ (c : Thread nD τ) none) Set.univ (k0_part13 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8 c (k0_pay12 (blkAt m (ofPlace c 6)))) Kt := by
  rw [k0_part13_eq_skeleton]; unfold k0_part13_skel
  simp only [Prog.lift, Prog.bind_op, Prog.bind_ret, Prog.pure_eq_ret]
  iintro ⟨#HK, HO, HR, Ho, Hh0, Hh1, Hh2, Hk⟩
  iapply (step_out m c 6 6 rfl f rfl rfl) $$ Ho; iintro Ho
  iapply (step_block m c 7 rfl) $$ HR; iintro HR
  iapply (step_out m c 7 7 rfl f rfl rfl) $$ Ho; iintro Ho
  iapply (step_done m K c (k := .fs 0) rfl (fslot c 0) shA rfl rfl (slot_credit _ _)) $$ [HO Hh0]
  · isplitr; · iexact HK
    isplitl [HO] <;> iassumption
  iintro ⟨HO, HA0, Hz0⟩
  iapply (step_done m K c (k := .fs 1) rfl (fslot c 1) shA rfl rfl (slot_credit _ _)) $$ [HO Hh1]
  · isplitr; · iexact HK
    isplitl [HO] <;> iassumption
  iintro ⟨HO, HA1, Hz1⟩
  iapply (step_done m K c (k := .fs 2) rfl (fslot c 2) shA rfl rfl (slot_credit _ _)) $$ [HO Hh2]
  · isplitr; · iexact HK
    isplitl [HO] <;> iassumption
  iintro ⟨HO, HA2, Hz2⟩
  rw [wp_ret]; imodintro
  iapply Hk
  isplitl [HO]; · iexact HO
  isplitl [HR]; · iexact HR
  isplitl [Ho]; · iexact Ho
  isplitl [HA0 HA1 HA2]
  · isplitl [HA0]; · iexact HA0
    isplitl [HA1] <;> iassumption
  isplitl [Hz0]; · iexact Hz0
  isplitl [Hz1] <;> iassumption

end Cert.KernelIdeal.Ring

end
-- ==== Proof.KernelIdeal.Run.lean ====
/-
The whole body of the kernel: its parts composed, from the rights the launch deals a device to every semaphore at zero.
-/
module

public import proofs.«01_k».proof.Proof.KernelIdeal.Hops

@[expose] public section

set_option maxRecDepth 16384
set_option maxHeartbeats 1000000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

variable (c : Dev nD)

/-- What the launch deals device `c` for its payments and waits: the entry signals, the exchange, the hops each way. -/
def gifts (c : Dev nD) : sProp 𝕄 :=
  iprop((tok c (.bar 0) ∗ tok c (.bar 1) ∗ tok c (.bar 2) ∗ at0 c (.bar 0) ∗ cred (tallyAt (cell c (.bar 0)) () 3))
    ∗ hop c .xs .xr
    ∗ (hop c (.fs 0) (.fr 0) ∗ hop c (.fs 1) (.fr 1) ∗ hop c (.fs 2) (.fr 2) ∗ hop c (.fs 3) (.fr 3))
    ∗ (hop c (.bs 0) (.br 0) ∗ hop c (.bs 1) (.br 1) ∗ hop c (.bs 2) (.br 2)))

/-- The three scratch buffers, with any contents. -/
def scratch (c : Dev nD) : sProp 𝕄 :=
  iprop((∃ f, blksPts (F := F) c fullShare f) ∗ (∃ f, sndPts (F := F) c f) ∗ (∃ f, rcvPts (F := F) c f))

/-- Every cell of device `c` finished, its semaphore at zero. -/
def fins (c : Dev nD) : sProp 𝕄 :=
  iprop(fin c (.bar 0)
    ∗ (fin c (.fs 0) ∗ fin c (.fs 1) ∗ fin c (.fs 2) ∗ fin c (.fs 3)) ∗ (fin c (.fr 0) ∗ fin c (.fr 1) ∗ fin c (.fr 2) ∗ fin c (.fr 3))
    ∗ (fin c (.bs 0) ∗ fin c (.bs 1) ∗ fin c (.bs 2)) ∗ (fin c (.br 0) ∗ fin c (.br 1) ∗ fin c (.br 2)) ∗ fin c .xs ∗ fin c .xr)

/-- The buffer of eight blocks with any contents gives its eight slots to land in. -/
theorem slots_split :
    iprop(∃ f, blksPts (F := F) c fullShare f)
      ⊢ iprop(land c (fslot c 0) ∗ (land c (fslot c 1) ∗ land c (fslot c 2) ∗ land c (fslot c 3) ∗ land c (fslot c 4))
          ∗ (land c (bslot c 1) ∗ land c (bslot c 2) ∗ land c (bslot c 3))) := by
  iintro ⟨%f, H⟩
  ihave H := (Entails.of_eq ((blksPts_slots c fullShare f).trans (slots_from c _))) $$ H
  icases H with ⟨H0, H1, H2, H3, H4, G1, G2, G3⟩
  unfold land
  isplitl [H0]; · iexists f; iexact H0
  isplitl [H1 H2 H3 H4]
  · isplitl [H1]; · iexists f; iexact H1
    isplitl [H2]; · iexists f; iexact H2
    isplitl [H3]; · iexists f; iexact H3
    iexists f; iexact H4
  isplitl [G1]; · iexists f; iexact G1
  isplitl [G2]; · iexists f; iexact G2
  iexists f; iexact G3

/-- The pieces lent to the copies and the pieces kept are again the whole buffer. -/
theorem slots_join :
    iprop(blksPts c shR (blks m c)
        ∗ (full m c (fslot c 0) shA ∗ full m c (fslot c 1) shA ∗ full m c (fslot c 2) shA ∗ full m c (fslot c 3) shA ∗ full m c (fslot c 4) shA
          ∗ full m c (bslot c 1) shA ∗ full m c (bslot c 2) shA ∗ full m c (bslot c 3) shA)
        ∗ (full m c (fslot c 0) shB ∗ full m c (fslot c 1) shB ∗ full m c (fslot c 2) shB ∗ full m c (fslot c 3) shB ∗ full m c (fslot c 4) shB
          ∗ full m c (bslot c 1) shB ∗ full m c (bslot c 2) shB ∗ full m c (bslot c 3) shB))
      ⊢ iprop(∃ f, blksPts (F := F) c fullShare f) := by
  have h : (bigSep Finset.univ fun q : Fin 8 => iprop(slotPts c q shA (blks m c) ∗ slotPts c q shB (blks m c) ∗ slotPts c q shR (blks m c)))
      ⊢ (bigSep Finset.univ fun q : Fin 8 => slotPts c q fullShare (blks m c) : sProp 𝕄) := bigSep_mono fun q _ => (slotPts_shares c q (blks m c)).2
  rw [bigSep_sep', bigSep_sep', ← blksPts_slots c fullShare, ← blksPts_slots c shR, slots_from c, slots_from c] at h
  iintro ⟨HR, HA, HB⟩
  iexists (blks m c)
  iapply h
  isplitl [HA]; · iexact HA
  isplitl [HB] <;> iassumption

/-- What part 14 leaves: everything but the last departure ended. -/
def part14Post (c : Dev nD) : sProp 𝕄 :=
  iprop(owing c [] ∗ hold c (.bs 2) ∗ xPts m c ∗ yPts m c ∗ (∃ f, sndPts (F := F) c f) ∗ (∃ f, rcvPts (F := F) c f) ∗ outPts c (outAt m c)
    ∗ (full m c (bslot c 2) shB -∗ ∃ f, blksPts (F := F) c fullShare f) ∗ (fin c (.bs 2) -∗ fins c))

/-- Part 14: the parts in order, and three of the last four departures ended. -/
theorem part14_spec {Kt : Dev nD → sProp 𝕄} :
    iprop(ctx m K ∗ owing c dues ∗ gifts c ∗ scratch c ∗ xPts m c ∗ yPts m c ∗ (∃ f, outPts (F := F) c f) ∗ (part14Post m c -∗ Kt c))
      ⊢ wp frame (wpE (defs₀ (F := F)) 𝒱₀ (c : Thread nD τ) none) Set.univ (k0_part14 (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8) Kt := by
  rw [k0_part14_eq_skeleton]; unfold k0_part14_skel
  simp only [wp_bind]
  apply part1_spec c
  intro v2 v5 v8 v11 v17 v25 v26 v28 v29 v30 v31
  dsimp only
  unfold gifts scratch
  iintro ⟨#HK, HO, ⟨⟨Ht0, Ht1, Ht2, Ha, Hc⟩, Hx0, ⟨Hf0, Hf1, Hf2, Hf3⟩, ⟨Hb0, Hb1, Hb2⟩⟩, ⟨Hk, Hs, Hr⟩, Hx, Hy, ⟨%f, Ho⟩, Hend⟩
  ihave Hk := (slots_split c) $$ Hk
  icases Hk with ⟨L0, LF, LB⟩
  iapply (part2_spec m K c)
  isplitr; · iexact HK
  isplitl [HO]; · iexact HO
  isplitl [Ht0 Ht1 Ht2]
  · isplitl [Ht0]; · iexact Ht0
    isplitl [Ht1] <;> iassumption
  isplitl [Ha]; · iexact Ha
  isplitl [Hc]; · iexact Hc
  isplitl [Hr]; · iexact Hr
  isplitl [LB]; · iexact LB
  isplitl [LF]; · iexact LF
  iintro %r ⟨HO, Z0, HrP, ⟨P0, P1, P2⟩, ⟨N0, N1, N2, N3⟩⟩
  obtain ⟨w31, w39, w512⟩ := r
  dsimp only
  iapply (part3_spec m K c)
  isplitr; · iexact HK
  isplitl [HO]; · iexact HO
  isplitl [Hx0]; · iexact Hx0
  isplitl [Hx]; · iexact Hx
  isplitl [Hy]; · iexact Hy
  isplitl [Hs]; · iexact Hs
  isplitl [HrP]; · iexact HrP
  iintro ⟨HO, Hx, Hy, Hs, Hr, Zxs, Zxr⟩
  dsimp only
  iapply (part4_spec m c)
  isplitl [L0]; · iexact L0
  iintro %r ⟨A0, B0, R0⟩
  obtain ⟨w125, w126, w127, w128, w129⟩ := r
  dsimp only
  iapply (part5_spec c)
  iintro %w167
  iapply (part6_spec m K c)
  isplitr; · iexact HK
  isplitl [HO]; · iexact HO
  isplitl [Hf0]; · iexact Hf0
  isplitl [A0]; · iexact A0
  isplitl [N0]; · iexact N0
  iintro ⟨HO, SF0, RF0⟩
  iapply (part7_spec m K c)
  isplitr; · iexact HK
  isplitl [HO]; · iexact HO
  isplitl [Hb0]; · iexact Hb0
  isplitl [B0]; · rw [bslot_zero, ← fslot_zero]; iexact B0
  isplitl [P0]; · iexact P0
  isplitl [RF0]; · iexact RF0
  isplitl [Hf1]; · iexact Hf1
  isplitl [N1]; · iexact N1
  iintro %w233 ⟨HO, SB0, RB0, ZF0, B1, R1, SF1, RF1⟩
  iapply (part8_spec m K c)
  isplitr; · iexact HK
  isplitl [HO]; · iexact HO
  isplitl [RB0]; · iexact RB0
  isplitl [Hb1]; · iexact Hb1
  isplitl [P1]; · iexact P1
  iintro ⟨HO, ZB0, A5, R5, SB1, RB1⟩
  iapply (part9_spec m K c)
  isplitr; · iexact HK
  isplitl [HO]; · iexact HO
  isplitl [RF1]; · iexact RF1
  isplitl [Hf2]; · iexact Hf2
  isplitl [N2]; · iexact N2
  isplitl [RB1]; · iexact RB1
  iintro %r ⟨HO, ZF1, B2, R2, SF2, RF2, ZB1, A6, B6, R6⟩
  obtain ⟨w297, w4⟩ := r
  dsimp only
  iapply (part10_spec m K c)
  isplitr; · iexact HK
  isplitl [HO]; · iexact HO
  isplitl [Hb2]; · iexact Hb2
  isplitl [B6]; · iexact B6
  isplitl [P2]; · iexact P2
  isplitl [RF2]; · iexact RF2
  iintro ⟨HO, SB2, RB2, ZF2, A3, B3, R3⟩
  iapply (part11_spec m K c)
  isplitr; · iexact HK
  isplitl [HO]; · iexact HO
  isplitl [Hf3]; · iexact Hf3
  isplitl [A3]; · iexact A3
  isplitl [N3]; · iexact N3
  isplitl [RB2]; · iexact RB2
  isplitl [R0 R1 R2 R3 R5 R6]
  · isplitl [R0]; · iexact R0
    isplitl [R1]; · iexact R1
    isplitl [R2]; · iexact R2
    isplitl [R3]; · iexact R3
    isplitl [R5] <;> iassumption
  iintro ⟨HO, SF3, ZF3, ZB2, ⟨A4, B4⟩, ⟨A7, B7⟩, HR⟩
  iapply (part12_spec m c f)
  isplitl [HR]; · iexact HR
  isplitl [Ho]; · rw [outUpTo_zero]; iexact Ho
  iintro ⟨HR, Ho⟩
  iapply (part13_spec m K c f)
  isplitr; · iexact HK
  isplitl [HO]; · iexact HO
  isplitl [HR]; · iexact HR
  isplitl [Ho]; · iexact Ho
  isplitl [SF0]; · iexact SF0
  isplitl [SF1]; · iexact SF1
  isplitl [SF2]; · iexact SF2
  iintro ⟨HO, HR, Ho, ⟨A0, A1, A2⟩, ⟨YF0, YF1, YF2⟩⟩
  simp only [Prog.lift, Prog.bind_op, Prog.bind_ret, Prog.pure_eq_ret]
  iapply (step_done m K c (k := .fs 3) rfl (fslot c 3) shA rfl rfl (slot_credit _ _)) $$ [HO SF3]
  · isplitr; · iexact HK
    isplitl [HO] <;> iassumption
  iintro ⟨HO, A3, YF3⟩
  rw [wp_ret]; imodintro
  iapply (step_done m K c (k := .bs 0) rfl (bslot c 0) shB rfl rfl (slot_credit _ _)) $$ [HO SB0]
  · isplitr; · iexact HK
    isplitl [HO] <;> iassumption
  iintro ⟨HO, B0, YB0⟩
  rw [wp_ret]; imodintro
  iapply (step_done m K c (k := .bs 1) rfl (bslot c 1) shB rfl rfl (slot_credit _ _)) $$ [HO SB1]
  · isplitr; · iexact HK
    isplitl [HO] <;> iassumption
  iintro ⟨HO, B5, YB1⟩
  rw [wp_ret, wp_ret]; imodintro; imodintro
  iapply Hend
  unfold part14Post
  isplitl [HO]; · iexact HO
  isplitl [SB2]; · iexact SB2
  isplitl [Hx]; · iexact Hx
  isplitl [Hy]; · iexact Hy
  isplitl [Hs]; · iexists _; iexact Hs
  isplitl [Hr]; · iexists _; iexact Hr
  isplitl [Ho]; · rw [← outUpTo_eight m c f]; iexact Ho
  isplitl [HR A0 A1 A2 A3 A4 A5 A6 A7 B0 B1 B2 B3 B4 B5 B7]
  · iintro B6
    iapply (slots_join m c)
    isplitl [HR]; · iexact HR
    isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6] <;> iassumption
    isplitl [B0]; · rw [fslot_zero, ← bslot_zero]; iexact B0
    isplitl [B1]; · iexact B1
    isplitl [B2]; · iexact B2
    isplitl [B3]; · iexact B3
    isplitl [B4]; · iexact B4
    isplitl [B5]; · iexact B5
    isplitl [B6] <;> iassumption
  iintro YB2
  unfold fins
  isplitl [Z0]; · iexact Z0
  isplitl [YF0 YF1 YF2 YF3]
  · isplitl [YF0]; · iexact YF0
    isplitl [YF1]; · iexact YF1
    isplitl [YF2] <;> iassumption
  isplitl [ZF0 ZF1 ZF2 ZF3]
  · isplitl [ZF0]; · iexact ZF0
    isplitl [ZF1]; · iexact ZF1
    isplitl [ZF2] <;> iassumption
  isplitl [YB0 YB1 YB2]
  · isplitl [YB0]; · iexact YB0
    isplitl [YB1] <;> iassumption
  isplitl [ZB0 ZB1 ZB2]
  · isplitl [ZB0]; · iexact ZB0
    isplitl [ZB1] <;> iassumption
  isplitl [Zxs] <;> iassumption

/-- The body of the kernel on device `c`: from its dealt rights, its staged blocks and any scratch contents, to the result
    in its staging buffer, everything paid, every semaphore at zero and the scratch buffers returned. -/
theorem body_spec {Kt : PUnit → sProp 𝕄} :
    iprop(ctx m K ∗ owing c dues ∗ gifts c ∗ scratch c ∗ xPts m c ∗ yPts m c ∗ (∃ f, outPts (F := F) c f)
        ∗ ((owing c [] ∗ fins c ∗ scratch c ∗ xPts m c ∗ yPts m c ∗ outPts c (outAt m c)) -∗ Kt ⟨⟩))
      ⊢ wp frame (wpE (defs₀ (F := F)) 𝒱₀ (c : Thread nD τ) none) Set.univ (cc0_body (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8) Kt := by
  rw [cc0_body_eq_skeleton]; unfold cc0_body_skel
  simp only [wp_bind]
  iintro ⟨#HK, HO, Hg, Hs, Hx, Hy, Ho, Hend⟩
  iapply (part14_spec m K c)
  isplitr; · iexact HK
  isplitl [HO]; · iexact HO
  isplitl [Hg]; · iexact Hg
  isplitl [Hs]; · iexact Hs
  isplitl [Hx]; · iexact Hx
  isplitl [Hy]; · iexact Hy
  isplitl [Ho]; · iexact Ho
  unfold part14Post
  iintro ⟨HO, SB2, Hx, Hy, Hs, Hr, Ho, Hj, Hz⟩
  simp only [Prog.lift, Prog.bind_op, Prog.bind_ret, Prog.pure_eq_ret]
  iapply (step_done m K c (k := .bs 2) rfl (bslot c 2) shB rfl rfl (slot_credit _ _)) $$ [HO SB2]
  · isplitr; · iexact HK
    isplitl [HO] <;> iassumption
  iintro ⟨HO, B6, YB2⟩
  rw [wp_ret, wp_ret]; imodintro; imodintro
  iapply Hend
  isplitl [HO]; · iexact HO
  isplitl [Hz YB2]; · iapply Hz; iexact YB2
  unfold scratch
  isplitl [Hj B6 Hs Hr]
  · isplitl [Hj B6]; · iapply Hj; iexact B6
    isplitl [Hs] <;> iassumption
  isplitl [Hx]; · iexact Hx
  isplitl [Hy] <;> iassumption

end Cert.KernelIdeal.Ring

end
-- ==== Proof.KernelIdeal.Launch.lean ====
/-
The launch on sixteen devices: the ghost state dealt to each, the credit of the payments owed to it, and the run.
-/
module

public import proofs.«01_k».proof.Proof.KernelIdeal.Run
public import Idealize.ShloMosaic.Lib.Pipeline.CollectiveSegs

@[expose] public section

set_option maxRecDepth 16384
set_option maxHeartbeats 1000000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c`'s body starts from. -/
def start (c : Dev nD) : sProp 𝕄 := iprop(∃ K, ctx m K ∗ gifts c)
/-- Before the one grid point: that and the scratch buffers. -/
def Φ₀ (c : Dev nD) : sProp 𝕄 := iprop(start m c ∗ scratch (F := F) c)
/-- After it: every semaphore at zero and the scratch buffers. -/
def Φ₁ (c : Dev nD) : sProp 𝕄 := iprop(fins (F := F) c ∗ scratch (F := F) c)

/-- What device `c` owes at launch. -/
def O₀ (c : Dev nD) : CellTallies nD τ sig Unit := owedL c dues

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => ystg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The one grid point. -/
abbrev pt : Fin cfg0.N := t0_0

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the body, -/
def bodyPre (c : Dev nD) : sProp 𝕄 :=
  iprop(Φ₀ m c ∗ (dats m ρ 0 c).owesAt () pt.castSucc
    ∗ (∃ d, stg c cc0_stg0_0 ((dats m ρ 0 c).before (0 : Fin 3) pt d))
    ∗ (∃ d, stg c cc0_stg1_0 ((dats m ρ 0 c).before (1 : Fin 3) pt d))
    ∗ (∃ d, stg c cc0_stg2_0 ((dats m ρ 0 c).before (2 : Fin 3) pt d)))
/-- and what it takes back. -/
def bodyPost (c : Dev nD) : sProp 𝕄 :=
  iprop(Φ₁ c ∗ (dats m ρ 0 c).owesAt () pt.succ ∗ stg c cc0_stg0_0 (xstg m c) ∗ stg c cc0_stg1_0 (ystg m c) ∗ stg c cc0_stg2_0 (outAt m c))

/-- The body meets what the pipeline asks of it. -/
theorem body_meets (c : Dev nD) : bodyPre m ρ c ⊢ wp frame (wpE (defs₀ (F := F)) 𝒱₀ (c : Thread nD τ) none) Set.univ (cc0_body (F := F) xM (Memref.isWhole_whole _) yM (Memref.isWhole_whole _) oM (Memref.isWhole_whole _) kM (Memref.isWhole_whole _) sM (Memref.isWhole_whole _) rM (Memref.isWhole_whole _)
        cc0_scratch3 cc0_scratch4 cc0_scratch5 cc0_scratch6 cc0_scratch7 cc0_scratch8) (fun _ => bodyPost m ρ c) := by
  unfold bodyPre Φ₀ start
  iintro ⟨⟨⟨%K, #HK, Hg⟩, Hs⟩, Ho, ⟨%d0, %g0, %h0, Hx⟩, ⟨%d1, %g1, %h1, Hy⟩, ⟨%d2, %g2, %h2, Hout⟩⟩
  have hx : g0 = xstg m c := by rw [h0]; unfold Dat.before; rw [if_pos (fetch0_0 pt)]; rfl
  have hy : g1 = ystg m c := by rw [h1]; unfold Dat.before; rw [if_pos (fetch0_1 pt)]; rfl
  subst hx hy
  unfold Dat.owesAt Pipeline.owesWithin
  icases Ho with ⟨%W, %hW, HO⟩
  rw [show (dats m ρ 0 c).owed pt.castSucc = owedL c dues from rfl]
  iapply (body_spec m K c)
  isplitr; · iexact HK
  isplitl [HO]; · unfold owing; iexists W; iexact HO
  isplitl [Hg]; · iexact Hg
  isplitl [Hs]; · iexact Hs
  isplitl [Hx]; · unfold xPts; iexact Hx
  isplitl [Hy]; · unfold yPts; iexact Hy
  isplitl [Hout]; · unfold outPts; iexists g2; iexact Hout
  unfold bodyPost Φ₁ Dat.owesAt Pipeline.owesWithin owing xPts yPts outPts
  rw [show (dats m ρ 0 c).owed pt.succ = owedL c [] from rfl]
  iintro ⟨⟨%W', HO⟩, Hf, Hs, Hx, Hy, Hout⟩
  isplitl [Hf Hs]
  · isplitl [Hf] <;> iassumption
  isplitl [HO]
  · iexists W'
    isplitr; · ipureintro; exact fun _ _ => Or.inl trivial
    iexact HO
  isplitl [Hx]
  · iexists _; isplitr; · ipureintro; rfl
    iexact Hx
  isplitl [Hy]
  · iexists _; isplitr; · ipureintro; rfl
    iexact Hy
  iexists _; isplitr; · ipureintro; rfl
  iexact Hout

/-- The library's obligation for the body. -/
theorem body_obligation (c : Dev nD) : BodyObligation (dats (F := F) m ρ 0 c) (defs₀ (F := F)) 𝒱₀ () Set.univ := fun t => by
  rw [show t = pt from fin_N0 t]
  have hW (Φ : Fin cfg0.W → sProp 𝕄) : bigSep Finset.univ Φ = iprop(Φ (0 : Fin 3) ∗ Φ (1 : Fin 3) ∗ Φ (2 : Fin 3)) := bigSep_W0 Φ
  rw [hW, hW]
  simp only [owns_stg]
  exact body_meets m ρ c

/-! ## The ghost state of the launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 17 → GSem nD τ sig) := by
  rintro ⟨c, i⟩ ⟨c', i'⟩ h
  have h1 : c = c' := congrArg (fun g : GSem nD τ sig => g.1.1) h
  have h2 : i = i' := csem_injective (congrArg Prod.snd h)
  rw [h1, h2]
/-- Every cell of the protocol. -/
def cells : Finset (GSem nD τ sig) := Finset.univ.map ⟨kcell, kcell_injective⟩

/-- The right to one payment: the cell it goes to and its name. -/
abbrev tokOf (ck : Dev nD × Kind) : GSem nD τ sig × ℕ × Kind := (pcell ck.1 ck.2, 0, ck.2)
theorem tokOf_injective : Function.Injective tokOf := by
  rintro ⟨c, k⟩ ⟨c', k'⟩ h
  have hk : k = k' := congrArg (fun x : GSem nD τ sig × ℕ × Kind => x.2.2) h
  subst hk
  have hc : k.dst c = k.dst c' := congrArg (fun x : GSem nD τ sig × ℕ × Kind => x.1.1.1) h
  rw [dst_injective k hc]
/-- Every payment's right. -/
def rights : Finset (GSem nD τ sig × ℕ × Kind) := Finset.univ.map ⟨tokOf, tokOf_injective⟩

def u₀ : UU := (initOf (Pipeline.cells cfgs cellOf_inj) (Pipeline.launchToks cfgs cellOf_inj), initOf cells rights)

/-- The rights to device `c`'s payments. -/
def toks (c : Dev nD) : sProp 𝕄 := bigSep Finset.univ fun k : Kind => tok (F := F) c k
/-- Device `c`'s positions at its cells. -/
def spots (c : Dev nD) : sProp 𝕄 := bigSep Finset.univ fun i : Fin 17 => atPos ER (kcell (c, i)) 0 ∅ 0

/-- What the launch element deals device `c`. -/
def G (c : Dev nD) : sProp 𝕄 :=
  iprop((bigSep Finset.univ fun i : Fin 17 => roundState ER (sched m) (kcell (c, i)) 0)
    ∗ (bigSep Finset.univ fun i : Fin 17 => reached ER (kcell (c, i)) 0) ∗ spots c ∗ toks c)

/-- The invariants of all cells and that each is at its round. -/
def recs (K : Dev nD × Fin 17 → ℕ) : sProp 𝕄 :=
  iprop((bigSep Finset.univ fun ci : Dev nD × Fin 17 => cellInv ER (sched m) (K ci) (kcell ci))
    ∗ bigSep Finset.univ fun ci : Dev nD × Fin 17 => reached ER (kcell ci) 0)

instance recs_persistent (K : Dev nD × Fin 17 → ℕ) : BI.Persistent (recs (F := F) m K) := by unfold recs; infer_instance

/-- What device `c` has after the invariants are set up. -/
def G' (c : Dev nD) : sProp 𝕄 := iprop(∃ K, recs m K ∗ spots c ∗ toks c)

theorem fund : BI.own (ER (initOf cells rights)) ⊢ (|==> bigSep Finset.univ (G (F := F) m) : sProp 𝕄) := by
  have hX (Φ : GSem nD τ sig → sProp 𝕄) : bigSep cells Φ = bigSep Finset.univ fun c : Dev nD => bigSep Finset.univ fun i : Fin 17 => Φ (kcell (c, i)) := by
    unfold cells; rw [bigSep_map, bigSep_univ_prod]; rfl
  have hT : bigSep rights (fun x => (dutyTok ER x.1 x.2.1 x.2.2 : sProp 𝕄)) = bigSep Finset.univ fun c : Dev nD => toks c := by
    unfold rights; rw [bigSep_map, bigSep_univ_prod]; rfl
  iintro HX
  imod (Rounds.fund ER (sched m) cells rights) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G spots; simp only [bigSep_sep']
  isplitl [Hst]; · iexact Hst
  isplitl [Hr]; · iexact Hr
  isplitl [Hat] <;> iassumption

/-- The seventeen numbers of the semaphores, one by one. -/
theorem bigSep_csem (Φ : Fin 17 → sProp 𝕄) :
    bigSep Finset.univ Φ = iprop(Φ 0 ∗ bigSep Finset.univ fun k : Fin 16 => Φ k.succ) := by
  rw [bigSep_univ_at Φ 0, show (Finset.univ.erase (0 : Fin 17)) = Finset.univ.map ⟨Fin.succ, Fin.succ_injective 16⟩ from by decide, bigSep_map]
  rfl

/-- The barrier semaphore is the one semaphore outside the kernel's own. -/
theorem unscopedSems0_eq (c : Dev nD) : (unscopedSems0 c : sProp 𝕄) = semVal (cell c (.bar 0)) 0 := by
  unfold unscopedSems0; rw [bigSep_eq_bigSepL_of_eq [SemLoc.reg barS] (by decide) (by decide)]; rfl

/-- A device's semaphores at zero, those of the kernel and the barrier, are its seventeen. -/
theorem sems0_eq (c : Dev nD) :
    (bigSep Finset.univ fun i : Fin 17 => semVal (kcell (c, i)) 0 : sProp 𝕄)
      = iprop(unscopedSems0 c ∗ Pipeline.ownSems0 (Ix := Unit) (Name := ℕ) (U := UU) (Lvl := ℕ) (Val := Elt F) (τ := τ) osem c) := by
  rw [bigSep_csem, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i : Fin 17 => reached ER (kcell (c, i)) 0) ∗ spots c ∗ toks c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun i : Fin 17 => semVal (kcell (c, i)) 0) ∗ bigSep Finset.univ fun i : Fin 17 => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv] <;> iassumption

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m) κ (kcell (c, i))))
          ∗ (bigSep Finset.univ fun i : Fin 17 => reached ER (kcell (c, i)) 0) ∗ spots c ∗ toks c) : sProp 𝕄)
      ⊢ bigSep Finset.univ (G' (F := F) m) := by
  rw [bigSep_sep', bigSep_sep', ← bigSep_univ_prod (fun ci : Dev nD × Fin 17 => iprop(∃ κ : ℕ, cellInv ER (sched m) κ (kcell ci))),
    ← bigSep_univ_prod (fun ci : Dev nD × Fin 17 => (reached ER (kcell ci) 0 : sProp 𝕄))]
  iintro ⟨HI, #HR, Hl⟩
  ihave HK := (BI.bigSep_exists_pi Finset.univ (fun (ci : Dev nD × Fin 17) (κ : ℕ) => (cellInv ER (sched m) κ (kcell ci) : sProp 𝕄))) $$ HI
  icases HK with ⟨%K, #HI⟩
  iapply (with_records (R := recs m K) (Φ := fun c => iprop(spots (F := F) c ∗ toks c)) fun c _ => by
    unfold G'
    iintro ⟨#H, H1, H2⟩
    iexists K
    isplitr; · iexact H
    isplitl [H1] <;> iassumption)
  isplitr
  · unfold recs; isplitl; · iexact HI
    iexact HR
  · iexact Hl

/-- The invariants of all devices are set up together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- What all devices together owe a cell: the payments of the list that raise its semaphore. -/
theorem owed_sum (c : Dev nD) (k₀ : Kind) : ∀ l : List Kind,
    (∑ d : Dev nD, owedL d l (cell c k₀) ()) = ((l.filter fun k => k.sem = k₀.sem).map Kind.amt).sum
  | [] => Finset.sum_eq_zero fun _ _ => rfl
  | k :: l => by
    have hd : (∑ d : Dev nD, (tallyAt (pcell d k) () k.amt : CellTallies nD τ sig Unit) (cell c k₀) ()) = if k.sem = k₀.sem then k.amt else 0 := by
      obtain ⟨d₀, hd₀⟩ := (Finite.injective_iff_surjective.mp (dst_injective k)) c
      have hi (d : Dev nD) : (tallyAt (pcell d k) () k.amt : CellTallies nD τ sig Unit) (cell c k₀) () = if d = d₀ then (if k.sem = k₀.sem then k.amt else 0) else 0 := by
        rw [tallyAt_apply]
        by_cases h : d = d₀
        · subst h
          rw [if_pos rfl]
          by_cases hs : k.sem = k₀.sem
          · rw [if_pos hs, if_pos ⟨by rw [pcell, cell, hd₀, cell, hs], rfl⟩]
          · rw [if_neg hs, if_neg fun hh => hs (congrArg Prod.snd hh.1).symm]
        · rw [if_neg h, if_neg fun hh => h (dst_injective k (hd₀.symm ▸ (congrArg (fun g : GSem nD τ sig => g.1.1) hh.1).symm))]
      rw [Finset.sum_congr rfl fun d _ => hi d, Finset.sum_ite_eq' Finset.univ d₀ fun _ => _, if_pos (Finset.mem_univ _)]
    rw [show (∑ d : Dev nD, owedL d (k :: l) (cell c k₀) ())
        = ∑ d : Dev nD, (owedL d l (cell c k₀) () + (tallyAt (pcell d k) () k.amt : CellTallies nD τ sig Unit) (cell c k₀) ()) from rfl,
      Finset.sum_add_distrib, owed_sum c k₀ l, hd]
    by_cases hs : k.sem = k₀.sem
    · rw [if_pos hs, List.filter_cons_of_pos (by exact decide_eq_true hs), List.map_cons, List.sum_cons, Nat.add_comm]
    · rw [if_neg hs, List.filter_cons_of_neg (by simpa using hs), Nat.add_zero]

theorem launch_credit (c : Dev nD) (k : Kind) :
    tallyOn (cell c k) (launchCredit (Pipeline.owing O₀) 0 (cell c k))
      = (tallyAt (cell c k) () ((dues.filter fun k' => k'.sem = k.sem).map Kind.amt).sum : CellTallies nD τ sig Unit) := by
  unfold tallyAt; refine congrArg _ (Finsupp.ext fun u => ?_); cases u
  rw [Pipeline.launchCredit_owing, Finsupp.single_eq_same]
  exact owed_sum c k dues

/-- The payments a device waits for that other devices make. -/
abbrev awaited : List Kind := [.bar 0, .xr, .fr 0, .fr 1, .fr 2, .fr 3, .br 0, .br 1, .br 2]

theorem awaited_one : ∀ k ∈ awaited, k.isBar = false → (dues.filter fun k' => k'.sem = k.sem) = [k] := by decide +kernel
theorem awaited_bar : (dues.filter fun k' => k'.sem = (Kind.bar 0).sem) = [.bar 0, .bar 1, .bar 2] := by decide +kernel

theorem creds (c : Dev nD) :
    (Pipeline.launchCred O₀ c : sProp 𝕄)
      ⊢ iprop(cred (tallyAt (cell c (.bar 0)) () 3) ∗ crd c .xr ∗ crd c (.fr 0) ∗ crd c (.fr 1) ∗ crd c (.fr 2) ∗ crd c (.fr 3)
          ∗ crd c (.br 0) ∗ crd c (.br 1) ∗ crd c (.br 2)) := by
  have hone (k : Kind) (hk : k ∈ awaited) (hb : k.isBar = false) :
      (cred (tallyOn (cell c k) (launchCredit (Pipeline.owing O₀) 0 (cell c k))) : sProp 𝕄) = crd c k := by
    unfold crd
    rw [launch_credit, awaited_one k hk hb, List.map_singleton, List.sum_singleton, Kind.amt_of hb]
  have hbar : (cred (tallyOn (cell c (.bar 0)) (launchCredit (Pipeline.owing O₀) 0 (cell c (.bar 0)))) : sProp 𝕄) = cred (tallyAt (cell c (.bar 0)) () 3) := by
    rw [launch_credit, awaited_bar]; rfl
  unfold Pipeline.launchCred
  refine BIBase.Entails.trans (bigSep_subset (Finset.subset_univ (awaited.toFinset.image Kind.sem))) ?_
  rw [bigSep_image_of_injOn (by
    have h : ∀ k ∈ awaited.toFinset, ∀ k' ∈ awaited.toFinset, k.sem = k'.sem → k = k' := by decide +kernel
    exact fun k hk k' hk' => h k hk k' hk')]
  rw [bigSep_eq_bigSepL_of_eq awaited rfl (by decide)]
  simp only [bigSepL_cons_cons, bigSepL_singleton]
  refine Entails.of_eq ?_
  rw [← hbar, ← hone .xr (by decide) rfl, ← hone (.fr 0) (by decide) rfl, ← hone (.fr 1) (by decide) rfl, ← hone (.fr 2) (by decide) rfl,
    ← hone (.fr 3) (by decide) rfl, ← hone (.br 0) (by decide) rfl, ← hone (.br 1) (by decide) rfl, ← hone (.br 2) (by decide) rfl]
  rfl

/-- The seventeen positions, named by the payments. -/
theorem spots_eq (c : Dev nD) :
    spots (F := F) c = iprop(at0 c (.bar 0) ∗ at0 c (.fs 0) ∗ at0 c (.fs 1) ∗ at0 c (.fs 2) ∗ at0 c (.fs 3) ∗ at0 c (.fr 0) ∗ at0 c (.fr 1) ∗ at0 c (.fr 2) ∗ at0 c (.fr 3)
      ∗ at0 c (.bs 0) ∗ at0 c (.bs 1) ∗ at0 c (.bs 2) ∗ at0 c (.br 0) ∗ at0 c (.br 1) ∗ at0 c (.br 2) ∗ at0 c .xs ∗ at0 c .xr) := by
  unfold spots
  rw [bigSep_univ_eq_bigSepL [0, 1, 2, 3, 4, 5, 6, 7, 8, 9, 10, 11, 12, 13, 14, 15, 16] (by decide) (by decide)]
  simp only [bigSepL_cons_cons, bigSepL_singleton]
  rfl
/-- The nineteen rights to pay. -/
theorem toks_eq (c : Dev nD) :
    toks (F := F) c = iprop(tok c (.bar 0) ∗ tok c (.bar 1) ∗ tok c (.bar 2) ∗ tok c .xs ∗ tok c .xr
      ∗ tok c (.fs 0) ∗ tok c (.fs 1) ∗ tok c (.fs 2) ∗ tok c (.fs 3) ∗ tok c (.fr 0) ∗ tok c (.fr 1) ∗ tok c (.fr 2) ∗ tok c (.fr 3)
      ∗ tok c (.bs 0) ∗ tok c (.bs 1) ∗ tok c (.bs 2) ∗ tok c (.br 0) ∗ tok c (.br 1) ∗ tok c (.br 2)) := by
  unfold toks
  rw [bigSep_univ_eq_bigSepL [.bar 0, .bar 1, .bar 2, .xs, .xr, .fs 0, .fs 1, .fs 2, .fs 3, .fr 0, .fr 1, .fr 2, .fr 3, .bs 0, .bs 1, .bs 2, .br 0, .br 1, .br 2] (by decide) (by decide)]
  simp only [bigSepL_cons_cons, bigSepL_singleton]
  rfl

/-- Positions, rights and credits, sorted by what they are used for. -/
theorem gifts_intro (c : Dev nD) : iprop(spots (F := F) c ∗ toks c ∗ Pipeline.launchCred O₀ c) ⊢ gifts (F := F) c := by
  rw [spots_eq, toks_eq]
  iintro ⟨⟨Ab, As0, As1, As2, As3, Ar0, Ar1, Ar2, Ar3, Bs0, Bs1, Bs2, Br0, Br1, Br2, Axs, Axr⟩,
    ⟨T0, T1, T2, Txs, Txr, Ts0, Ts1, Ts2, Ts3, Tr0, Tr1, Tr2, Tr3, Us0, Us1, Us2, Ur0, Ur1, Ur2⟩, HC⟩
  ihave HC := (creds (F := F) c) $$ HC
  icases HC with ⟨C3, Cx, C4, C5, C6, C7, D0, D1, D2⟩
  have hhop (kS kR : Kind) : iprop(at0 (F := F) c kS ∗ at0 c kR ∗ tok c kS ∗ tok c kR ∗ crd c kR) ⊢ hop c kS kR := by unfold hop; exact BIBase.Entails.refl
  unfold gifts
  isplitl [Ab T0 T1 T2 C3]
  · isplitl [T0]; · iexact T0
    isplitl [T1]; · iexact T1
    isplitl [T2]; · iexact T2
    isplitl [Ab] <;> iassumption
  isplitl [Axs Axr Txs Txr Cx]
  · iapply (hhop .xs .xr)
    isplitl [Axs]; · iexact Axs
    isplitl [Axr]; · iexact Axr
    isplitl [Txs]; · iexact Txs
    isplitl [Txr] <;> iassumption
  isplitl [As0 As1 As2 As3 Ar0 Ar1 Ar2 Ar3 Ts0 Ts1 Ts2 Ts3 Tr0 Tr1 Tr2 Tr3 C4 C5 C6 C7]
  · isplitl [As0 Ar0 Ts0 Tr0 C4]
    · iapply (hhop (.fs 0) (.fr 0))
      isplitl [As0]; · iexact As0
      isplitl [Ar0]; · iexact Ar0
      isplitl [Ts0]; · iexact Ts0
      isplitl [Tr0] <;> iassumption
    isplitl [As1 Ar1 Ts1 Tr1 C5]
    · iapply (hhop (.fs 1) (.fr 1))
      isplitl [As1]; · iexact As1
      isplitl [Ar1]; · iexact Ar1
      isplitl [Ts1]; · iexact Ts1
      isplitl [Tr1] <;> iassumption
    isplitl [As2 Ar2 Ts2 Tr2 C6]
    · iapply (hhop (.fs 2) (.fr 2))
      isplitl [As2]; · iexact As2
      isplitl [Ar2]; · iexact Ar2
      isplitl [Ts2]; · iexact Ts2
      isplitl [Tr2] <;> iassumption
    iapply (hhop (.fs 3) (.fr 3))
    isplitl [As3]; · iexact As3
    isplitl [Ar3]; · iexact Ar3
    isplitl [Ts3]; · iexact Ts3
    isplitl [Tr3] <;> iassumption
  isplitl [Bs0 Br0 Us0 Ur0 D0]
  · iapply (hhop (.bs 0) (.br 0))
    isplitl [Bs0]; · iexact Bs0
    isplitl [Br0]; · iexact Br0
    isplitl [Us0]; · iexact Us0
    isplitl [Ur0] <;> iassumption
  isplitl [Bs1 Br1 Us1 Ur1 D1]
  · iapply (hhop (.bs 1) (.br 1))
    isplitl [Bs1]; · iexact Bs1
    isplitl [Br1]; · iexact Br1
    isplitl [Us1]; · iexact Us1
    isplitl [Ur1] <;> iassumption
  iapply (hhop (.bs 2) (.br 2))
  isplitl [Bs2]; · iexact Bs2
  isplitl [Br2]; · iexact Br2
  isplitl [Us2]; · iexact Us2
  isplitl [Ur2] <;> iassumption

/-- Every cell finished is every semaphore at zero. -/
theorem fins_sems (c : Dev nD) : fins (F := F) c ⊢ (bigSep Finset.univ fun i : Fin 17 => semVal (kcell (c, i)) 0 : sProp 𝕄) := by
  have h : (bigSep Finset.univ fun i : Fin 17 => semVal (kcell (c, i)) 0 : sProp 𝕄)
      = iprop(fin c (.bar 0) ∗ fin c (.fs 0) ∗ fin c (.fs 1) ∗ fin c (.fs 2) ∗ fin c (.fs 3) ∗ fin c (.fr 0) ∗ fin c (.fr 1) ∗ fin c (.fr 2) ∗ fin c (.fr 3)
        ∗ fin c (.bs 0) ∗ fin c (.bs 1) ∗ fin c (.bs 2) ∗ fin c (.br 0) ∗ fin c (.br 1) ∗ fin c (.br 2) ∗ fin c .xs ∗ fin c .xr) := by
    rw [bigSep_univ_eq_bigSepL [0, 1, 2, 3, 4, 5, 6, 7, 8, 9, 10, 11, 12, 13, 14, 15, 16] (by decide) (by decide)]
    simp only [bigSepL_cons_cons, bigSepL_singleton]
    rfl
  rw [h]
  unfold fins
  iintro ⟨H, ⟨H0, H1, H2, H3⟩, ⟨I0, I1, I2, I3⟩, ⟨J0, J1, J2⟩, ⟨L0, L1, L2⟩, X, Y⟩
  isplitl [H]; · iexact H
  isplitl [H0]; · iexact H0
  isplitl [H1]; · iexact H1
  isplitl [H2]; · iexact H2
  isplitl [H3]; · iexact H3
  isplitl [I0]; · iexact I0
  isplitl [I1]; · iexact I1
  isplitl [I2]; · iexact I2
  isplitl [I3]; · iexact I3
  isplitl [J0]; · iexact J0
  isplitl [J1]; · iexact J1
  isplitl [J2]; · iexact J2
  isplitl [L0]; · iexact L0
  isplitl [L1]; · iexact L1
  isplitl [L2]; · iexact L2
  isplitl [X] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start recs ctx
  iintro ⟨-, Hlev, Hcr, -, ⟨%K, ⟨#HI, #HR⟩, Hs, Ht⟩⟩
  imodintro
  isplitl
  · iexists K
    isplitl [Hlev]
    · isplitr; · iexact HI
      isplitr; · iexact HR
      iexact Hlev
    iapply (gifts_intro (F := F) c)
    isplitl [Hs]; · iexact Hs
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch blksPts sndPts rcvPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch blksPts sndPts rcvPts
  iintro ⟨Hf, Hr⟩
  ihave Hz := ((fins_sems (F := F) c).trans (Entails.of_eq (sems0_eq c))) $$ Hf
  icases Hz with ⟨Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h (sm : DmaSem sig) (hs : slv (.dma sm) = 0) (l : List Kind) (hl : ∀ k ∈ l, 0 < slv k.sem) :
        (levAts L lv : sProp 𝕄) ⊢ MayWait (c : Thread nD τ) (.dma sm) () (owedL c l) := mayWait c (.dma sm) l fun k hk => by rw [hs]; exact hl k hk
    rcases t with ⟨_ | _, ht⟩
    · exact h _ (by fin_cases w <;> fin_cases s <;> rfl) dues (by decide)
    · exact h _ (by fin_cases w <;> fin_cases s <;> rfl) [] (by decide)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

/-- Every window's array holds its computed contents. -/
def QC : PUnit × MemSt nD τ sig (Elt F) → Prop := fun r =>
  ∀ c : Dev nD, ∀ w : Fin cfg0.W, r.2.mem ((cfg0.win w).arr.view.loc (c : Thread nD τ)) = finalA m ρ c w

/-- From any memory with every semaphore zero, every fair run of the sixteen devices ends, with each device's arrays at
    the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays the kernel reads are unchanged, -/
theorem finalA_x (c : Dev nD) : finalA m ρ c (0 : Fin 3) = m ((c : Thread nD τ).loc main_arg0) :=
  (dats (F := F) m ρ 0 c).arrAt_in (0 : Fin 3) rfl _
theorem finalA_y (c : Dev nD) : finalA m ρ c (1 : Fin 3) = m ((c : Thread nD τ).loc main_arg1) :=
  (dats (F := F) m ρ 0 c).arrAt_in (1 : Fin 3) rfl _

end Cert.KernelIdeal.Ring

end
-- ==== Proof.KernelIdeal.Value.lean ====
/-
The value the kernel leaves on each device over the extended reals, as one sum over the two halves of the contraction.
-/
module

public import proofs.«01_k».proof.Proof.KernelIdeal.Launch
public import Idealize.ShloMosaic.Lib.Pipeline.Value
public import Idealize.ShloMosaic.Lib.ValueIdxCore
public import Idealize.ShloMosaic.PureOps.Ideal.Laws
public import Idealize.ShloMosaic.Lib.Pipeline.ValueKit.Geometry

@[expose] public section

set_option maxRecDepth 16384
set_option maxHeartbeats 1000000

noncomputable section

namespace Cert.KernelIdeal.Ring

open Cert.KernelIdeal Cert.KernelIdeal.Gen

open Idealize.ShloMosaic Idealize.ShloMosaic.TcCoe
open Idealize.ShloMosaic.ValueIdx (contrEquiv1 contrEquiv1_symm_val)
open Idealize.SL.Sem
open Idealize.ShloMosaic.Pipeline (Dat Cfg Window)

section AnyFloat

variable {F : FTy → Type} [FloatOps F]
variable (m : (ℓ : Loc nD τ sig) → Buf (Elt F) ℓ) (ρ : Dev nD → PrngReg)

/-! ## Windows that are their whole arrays -/

/-- The staged block of `x` is the device's argument, -/
theorem xstg_eq (c : Dev nD) : xstg m c = m ((c : Thread nD τ).loc main_arg0) := by
  funext y
  refine congrArg (m ((c : Thread nD τ).loc main_arg0)) (funext fun a => Fin.ext ?_)
  exact Window.rect_emb_val_of_index_zero win0_0 (0 : Fin 1) a (by fin_cases a <;> rfl) y
/-- and so is that of `dy`. -/
theorem ystg_eq (c : Dev nD) : ystg m c = m ((c : Thread nD τ).loc main_arg1) := by
  funext y
  refine congrArg (m ((c : Thread nD τ).loc main_arg1)) (funext fun a => Fin.ext ?_)
  exact Window.rect_emb_val_of_index_zero win0_1 (0 : Fin 1) a (by fin_cases a <;> rfl) y

/-- An element of the result's one block is the same element of the array. -/
theorem out_emb (y : S512x4096.Idx) : (win0_2.blk (0 : Fin 1)).view.emb y = y :=
  funext fun a => Fin.ext (Window.rect_emb_val_of_index_zero win0_2 (0 : Fin 1) a (by fin_cases a <;> rfl) y)

/-- The result array of device `c` ends holding the block the body stores. -/
theorem finalA_out (c : Dev nD) : finalA m ρ c (2 : Fin 3) = outAt m c := by
  unfold finalA
  refine Dat.arrAt_eq_of_cover (dats m ρ 0 c) (2 : Fin 3) (outAt m c) (fun t _ => ?_) fun i => ⟨pt, flush0_2 pt, ?_⟩
  · rw [show t = pt from fin_N0 t]
    funext y
    exact (congrArg (outAt m c) (out_emb y)).symm
  · have h := (win0_2.blk (0 : Fin 1)).view.emb_mem_set i
    rw [out_emb i] at h
    exact h

/-! ## The columns read -/

theorem off1_eq (c : Dev nD) : k0_off1 c = ![0, 512 * (pos c).val] := by revert c; decide +kernel
theorem off2_eq (c : Dev nD) : k0_off2 c = ![0, 512 * (1 - c.val / 8)] := by revert c; decide +kernel
theorem off3_eq (c : Dev nD) : k0_off3 c = ![0, 512 * (c.val / 8)] := by revert c; decide +kernel

/-- A device at another place of the ring is in the same ring, -/
theorem ofPlace_ring : ∀ (c : Dev nD) (q : Fin 8), (ofPlace c q).val / 8 = c.val / 8 := by decide +kernel
/-- one of the two rings, -/
theorem ring_lt : ∀ c : Dev nD, c.val / 8 < 2 := by decide +kernel
/-- and the partner is in the other. -/
theorem peer_ring : ∀ c : Dev nD, (peer c).val / 8 = 1 - c.val / 8 := by decide +kernel

/-- Column `j` of the columns of `dy` is column `512 q + j`, for `q` the device's place. -/
theorem ycols_apply (c : Dev nD) (k : Fin 1024) (j : Fin 512) (j' : Fin 4096) (h : j'.val = 512 * (pos c).val + j.val) :
    ycols m c (ValueIdx.ix2 k j) = m ((c : Thread nD τ).loc main_arg1) (ValueIdx.ix2 k j') := by
  rw [← ystg_eq m c]
  refine congrArg (ystg m c) (funext fun a => Fin.ext ?_)
  have e (a : Fin 2) : (((Rect.unit (s := S1024x4096) (k0_off1 c) S1024x512.size (k0_off1_inb c)).emb (ValueIdx.ix2 k j)) a : ℕ)
      = (![0, 512 * (pos c).val] : Fin 2 → ℕ) a + (ValueIdx.ix2 k j : S1024x512.Idx) a :=
    (ValueKit.rect_emb_unit_val (s := S1024x4096) (k0_off1 c) S1024x512.size (k0_off1_inb c) (ValueIdx.ix2 k j) a).trans
      (congrArg (fun o : Fin 2 → ℕ => o a + ((ValueIdx.ix2 k j : S1024x512.Idx) a : ℕ)) (off1_eq c))
  refine (e a).trans ?_
  match a with
  | ⟨0, _⟩ => exact Nat.zero_add _
  | ⟨1, _⟩ => exact h.symm
/-- Column `i` of the kept columns of `x` is column `512 a + i`, for `a` the device's ring, -/
theorem xhome_apply (c : Dev nD) (k : Fin 1024) (i : Fin 512) (i' : Fin 1024) (h : i'.val = 512 * (c.val / 8) + i.val) :
    xhome m c (ValueIdx.ix2 k i) = m ((c : Thread nD τ).loc main_arg0) (ValueIdx.ix2 k i') := by
  rw [← xstg_eq m c]
  refine congrArg (xstg m c) (funext fun a => Fin.ext ?_)
  have e (a : Fin 2) : (((Rect.unit (s := S1024x1024) (k0_off3 c) S1024x512.size (k0_off3_inb c)).emb (ValueIdx.ix2 k i)) a : ℕ)
      = (![0, 512 * (c.val / 8)] : Fin 2 → ℕ) a + (ValueIdx.ix2 k i : S1024x512.Idx) a :=
    (ValueKit.rect_emb_unit_val (s := S1024x1024) (k0_off3 c) S1024x512.size (k0_off3_inb c) (ValueIdx.ix2 k i) a).trans
      (congrArg (fun o : Fin 2 → ℕ => o a + ((ValueIdx.ix2 k i : S1024x512.Idx) a : ℕ)) (off3_eq c))
  refine (e a).trans ?_
  match a with
  | ⟨0, _⟩ => exact Nat.zero_add _
  | ⟨1, _⟩ => exact h.symm
/-- and of the columns sent away, `512 (1 - a) + i`. -/
theorem xaway_apply (c : Dev nD) (k : Fin 1024) (i : Fin 512) (i' : Fin 1024) (h : i'.val = 512 * (1 - c.val / 8) + i.val) :
    xaway m c (ValueIdx.ix2 k i) = m ((c : Thread nD τ).loc main_arg0) (ValueIdx.ix2 k i') := by
  rw [← xstg_eq m c]
  refine congrArg (xstg m c) (funext fun a => Fin.ext ?_)
  have e (a : Fin 2) : (((Rect.unit (s := S1024x1024) (k0_off2 c) S1024x512.size (k0_off2_inb c)).emb (ValueIdx.ix2 k i)) a : ℕ)
      = (![0, 512 * (1 - c.val / 8)] : Fin 2 → ℕ) a + (ValueIdx.ix2 k i : S1024x512.Idx) a :=
    (ValueKit.rect_emb_unit_val (s := S1024x1024) (k0_off2 c) S1024x512.size (k0_off2_inb c) (ValueIdx.ix2 k i) a).trans
      (congrArg (fun o : Fin 2 → ℕ => o a + ((ValueIdx.ix2 k i : S1024x512.Idx) a : ℕ)) (off2_eq c))
  refine (e a).trans ?_
  match a with
  | ⟨0, _⟩ => exact Nat.zero_add _
  | ⟨1, _⟩ => exact h.symm

end AnyFloat

/-! ## Over the extended reals -/

variable (m : (ℓ : Loc nD τ sig) → Buf (Elt Ideal) ℓ) (ρ : Dev nD → PrngReg)

/-- The product of the transpose of `l` with `r`, at one element. -/
theorem tdot_apply (l r : FVec Ideal S1024x512 .bf16) (i j : Fin 512) :
    matmul dot_S1024x512_S1024x512_S512x512_0_0_1_1_n_n none l r (constant S512x512 .f32 0x00000000#32 : FVec Ideal S512x512 .f32) (ValueIdx.ix2 i j)
      = ∑ k : Fin 1024, l (ValueIdx.ix2 k i) * r (ValueIdx.ix2 k j) := by
  have hr : (dot_S1024x512_S1024x512_S512x512_0_0_1_1_n_n).contr.rank = 1 := rfl
  have hs : (dot_S1024x512_S1024x512_S512x512_0_0_1_1_n_n).contr.size ⟨0, by omega⟩ = 1024 := rfl
  refine (Ideal.matmul_constant_zero_apply _ none l r (ValueIdx.ix2 i j)).trans ?_
  rw [← Equiv.sum_comp (contrEquiv1 dot_S1024x512_S1024x512_S512x512_0_0_1_1_n_n 1024 hr hs).symm]
  refine Finset.sum_congr rfl fun k _ => ?_
  have hk := contrEquiv1_symm_val _ 1024 hr hs k
  have el : (dot_S1024x512_S1024x512_S512x512_0_0_1_1_n_n).lhsIdx (ValueIdx.ix2 i j) ((contrEquiv1 _ 1024 hr hs).symm k) = ValueIdx.ix2 k i := by
    funext a; apply Fin.ext
    match a with
    | ⟨0, _⟩ => exact hk
    | ⟨1, _⟩ => rfl
  have er : (dot_S1024x512_S1024x512_S512x512_0_0_1_1_n_n).rhsIdx (ValueIdx.ix2 i j) ((contrEquiv1 _ 1024 hr hs).symm k) = ValueIdx.ix2 k j := by
    funext a; apply Fin.ext
    match a with
    | ⟨0, _⟩ => exact hk
    | ⟨1, _⟩ => rfl
  rw [el, er]

/-- The half product a device keeps, -/
theorem kept_apply (y x : Vec Ideal S1024x512 .bf16) (i j : Fin 512) :
    k0_pay3 (F := Ideal) y x (ValueIdx.ix2 i j) = ∑ k : Fin 1024, x (ValueIdx.ix2 k i) * y (ValueIdx.ix2 k j) := by
  unfold k0_pay3 k0_pay1
  simp only [shapeCast_self]
  exact tdot_apply x y i j
/-- and the one it sends. -/
theorem sent_apply (y x : Vec Ideal S1024x512 .bf16) (i j : Fin 512) :
    k0_pay4 (F := Ideal) (k0_pay2 (F := Ideal) y x) (ValueIdx.ix2 i j) = ∑ k : Fin 1024, x (ValueIdx.ix2 k i) * y (ValueIdx.ix2 k j) := by
  unfold k0_pay4 k0_pay2 k0_pay1
  simp only [shapeCast_self]
  exact tdot_apply x y i j

/-- A block stored and read back is the sum of its two halves. -/
theorem stored_apply (a b : FVec Ideal S512x512 .f32) (j : S512x512.Idx) :
    k0_pay6 (F := Ideal) (k0_pay5 (F := Ideal) a b) j = a j + b j := by
  unfold k0_pay6 k0_pay5
  simp only [shapeCast_self]
  show shapeCast S512x512 (shapeCast S1x512x512 (truncf .bf16 (addf a b) bitsLt_bf16_f32) shapeCasts_S512x512_S1x512x512) shapeCasts_S1x512x512_S512x512 j = _
  rw [shapeCast_shapeCast]
  rfl

/-- The two halves of a sum of 2048 terms, in either order. -/
theorem sum_halves (f : Fin 2048 → EReal) (a : Fin 2) :
    (∑ k : Fin 1024, f ⟨1024 * a.val + k.val, by have := a.isLt; have := k.isLt; omega⟩)
        + (∑ k : Fin 1024, f ⟨1024 * (1 - a.val) + k.val, by have := k.isLt; omega⟩) = ∑ k : Fin 2048, f k := by
  have h : (∑ k : Fin 2048, f k) = (∑ k : Fin 1024, f ⟨k.val, by omega⟩) + ∑ k : Fin 1024, f ⟨1024 + k.val, by omega⟩ :=
    Fin.sum_univ_add (a := 1024) (b := 1024) f
  rw [h]
  match a with
  | ⟨0, _⟩ => simp
  | ⟨1, _⟩ =>
    rw [add_comm]
    simp

/-- The result of device `c` as a sum over all 2048 contracted positions, when the devices hold the two halves of `X`
    and `Y` by rows. -/
theorem outAt_apply (X : (⟨2, ![2048, 1024]⟩ : Shape).Idx → EReal) (Y : (⟨2, ![2048, 4096]⟩ : Shape).Idx → EReal)
    (hX : ∀ (c : Dev nD) (k : Fin 1024) (i : Fin 1024),
      m ((c : Thread nD τ).loc main_arg0) (ValueIdx.ix2 k i) = X (ValueIdx.ix2 ⟨1024 * (c.val / 8) + k.val, by have := ring_lt c; omega⟩ i))
    (hY : ∀ (c : Dev nD) (k : Fin 1024) (j : Fin 4096),
      m ((c : Thread nD τ).loc main_arg1) (ValueIdx.ix2 k j) = Y (ValueIdx.ix2 ⟨1024 * (c.val / 8) + k.val, by have := ring_lt c; omega⟩ j))
    (c : Dev nD) (i : Fin 512) (j : Fin 4096) :
    outAt m c (ValueIdx.ix2 i j) = ∑ k : Fin 2048, X (ValueIdx.ix2 k ⟨512 * (c.val / 8) + i.val, by have := ring_lt c; omega⟩) * Y (ValueIdx.ix2 k j) := by
  have hq : j.val / 512 < 8 := by omega
  have hp : j.val % 512 < 512 := Nat.mod_lt _ (by decide)
  generalize hd : ofPlace c ⟨j.val / 512, hq⟩ = d
  have hpos : (pos d).val = j.val / 512 := by rw [← hd, pos_ofPlace]
  have hring : d.val / 8 = c.val / 8 := by
    rw [← hd]; exact ofPlace_ring c _
  have hpeer : (peer d).val / 8 = 1 - d.val / 8 := peer_ring d
  have hd2 : d.val / 8 < 2 := ring_lt d
  have hj : j.val = 512 * (j.val / 512) + j.val % 512 := (Nat.div_add_mod _ _).symm
  have h1 : outAt m c (ValueIdx.ix2 i j) = k0_pay6 (blkAt m d) (ValueIdx.ix2 i ⟨j.val % 512, hp⟩) := by
    rw [← hd]; rfl
  rw [h1]
  unfold blkAt sentAt
  rw [stored_apply, kept_apply, sent_apply]
  refine Eq.trans ?_ (sum_halves (fun k => X (ValueIdx.ix2 k ⟨512 * (c.val / 8) + i.val, by have := ring_lt c; omega⟩) * Y (ValueIdx.ix2 k j)) ⟨d.val / 8, hd2⟩)
  refine congrArg₂ (· + ·) (Finset.sum_congr rfl fun k _ => ?_) (Finset.sum_congr rfl fun k _ => ?_)
  · rw [xhome_apply m d k i ⟨512 * (c.val / 8) + i.val, by have := ring_lt c; omega⟩ (by rw [hring]),
      ycols_apply m d k _ j (by rw [hpos]; exact hj), hX, hY]
  · rw [xaway_apply m (peer d) k i ⟨512 * (c.val / 8) + i.val, by have := ring_lt c; omega⟩ (by
        show 512 * (c.val / 8) + i.val = _
        rw [hpeer, ← hring]; omega),
      ycols_apply m (peer d) k _ j (by rw [pos_peer, hpos]; exact hj), hX, hY]
    simp only [hpeer]

end Cert.KernelIdeal.Ring

end
-- ==== Proof.lean ====
/-
The certificate of the data-parallel gradient product on sixteen devices. Each device multiplies its half of the rows of
`x` and `dy` for one eighth of the columns, swaps half of the product with its partner in the other ring, adds, and passes
the finished blocks both ways round its ring of eight until every device holds all eight. The protocol is proved once for
every float instance (Proof/KernelIdeal/Protocol to Launch) and again, word for word, for the printed program
(Proof/Kernel); the two frames and the value are read off these runs here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Product
public import proofs.«01_k».proof.Proof.Kernel.Launch
public import proofs.«01_k».proof.Proof.KernelIdeal.Value
public import Idealize.ShloMosaic.Lib.Layout
public import Idealize.ShloMosaic.Adequacy
public import Idealize.ShloMosaic.Init

@[expose] public section

noncomputable section

namespace Cert.Proof

open Idealize.ShloMosaic Idealize.ShloMosaic.TcCoe Idealize.SL.Sem

/-- The kernel as printed keeps its arguments and ends with every semaphore at zero. -/
theorem frame_kernel : Cert.quiescent_Kernel := fun m ρ _ =>
  θ_run_mono (Cert.Kernel.Ring.run_main (F := Bits) m ρ) fun _ h =>
    ⟨fun c => ⟨(h.1 c (0 : Fin 3)).trans (Cert.Kernel.Ring.finalA_x m ρ c), (h.1 c (1 : Fin 3)).trans (Cert.Kernel.Ring.finalA_y m ρ c)⟩, h.2⟩

/-- So does its idealization. -/
theorem frame_kernelIdeal : Cert.quiescent_KernelIdeal := fun m ρ _ =>
  θ_run_mono (Cert.KernelIdeal.Ring.run_main (F := Ideal) m ρ) fun _ h =>
    ⟨fun c => ⟨(h.1 c (0 : Fin 3)).trans (Cert.KernelIdeal.Ring.finalA_x m ρ c), (h.1 c (1 : Fin 3)).trans (Cert.KernelIdeal.Ring.finalA_y m ρ c)⟩, h.2⟩

/-- So does the reference, which has no semaphore. -/
theorem frame_reference : Cert.quiescent_ReferenceIdeal := fun m ρ _ =>
  θ_run_mono (Cert.ReferenceIdeal.Value.run (F := Ideal) m ρ) fun r h =>
    ⟨fun c => (h c).2, Idealize.ShloMosaic.sem_eq_zero_of_no_sems (by decide) r.2⟩

/-- A device's coordinate on the first axis of the mesh is its ring. -/
theorem mesh_row : ∀ c : Fin 16, ((Layout.meshBlock (r := 2) [2, 2, 4] ![[0], []] c) 0).val = c.val / 8 := by decide +kernel
/-- No axis cuts the columns. -/
theorem mesh_col : ∀ c : Fin 16, ((Layout.meshBlock (r := 2) [2, 2, 4] ![[0], []] c) 1).val = 0 := by decide +kernel

/-- An element of device `c`'s block of an array cut in two by rows: the same column, `c / 8` blocks further down. -/
theorem blockN_rows {α : Type} (n w : ℕ) (c : Fin 16) (v : (⟨2, ![2 * n, w]⟩ : Shape).Idx → α)
    (h : Layout.TilesN ⟨2, ![n, w]⟩ ⟨2, ![2 * n, w]⟩ _) (i : Fin n) (j : Fin w) (r : Fin (2 * n)) (hr : r.val = n * (c.val / 8) + i.val) :
    Layout.blockN ⟨2, ![n, w]⟩ ⟨2, ![2 * n, w]⟩ (Layout.meshBlock [2, 2, 4] ![[0], []] c) v h (ValueIdx.ix2 i j) = v (ValueIdx.ix2 r j) := by
  rw [Layout.blockN_apply]
  refine congrArg v (funext fun a => Fin.ext ((Layout.TilesN.idx_val h _ _ a).trans ?_))
  match a with
  | ⟨0, _⟩ =>
    refine (congrArg (fun b => b * n + i.val) (mesh_row c)).trans ?_
    show c.val / 8 * n + i.val = r.val
    rw [hr, Nat.mul_comm]
  | ⟨1, _⟩ =>
    refine (congrArg (fun b => b * w + j.val) (mesh_col c)).trans ?_
    show 0 * w + j.val = j.val
    omega

/-- Over the extended reals every device ends with its rows of the product that the reference computes. -/
theorem value : Cert.algebraic_KernelIdeal_ReferenceIdeal := fun m g m' g' _ hag => by
  refine ⟨Cert.ReferenceIdeal.Value.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine θ_run_mono (Cert.KernelIdeal.Ring.run_main (F := Ideal) m g) fun _ h c =>
      ⟨(h.1 c (2 : Fin 3)).trans ((Cert.KernelIdeal.Ring.finalA_out m g c).trans ?_),
        (h.1 c (0 : Fin 3)).trans (Cert.KernelIdeal.Ring.finalA_x m g c), (h.1 c (1 : Fin 3)).trans (Cert.KernelIdeal.Ring.finalA_y m g c)⟩
    funext y
    obtain ⟨i, j, rfl⟩ : ∃ (i : Fin 512) (j : Fin 4096), y = ValueIdx.ix2 i j := ⟨y 0, y 1, ValueIdx.eq_ix2 y⟩
    have hc : c.val / 8 < 2 := Cert.KernelIdeal.Ring.ring_lt c
    refine (Cert.KernelIdeal.Ring.outAt_apply m _ _
      (fun c k i => (congrFun (hag c).1 (ValueIdx.ix2 k i)).trans (blockN_rows 1024 1024 c _ _ k i _ rfl))
      (fun c k j => (congrFun (hag c).2 (ValueIdx.ix2 k j)).trans (blockN_rows 1024 4096 c _ _ k j _ rfl)) c i j).trans ?_
    exact ((blockN_rows 512 4096 c _ _ i j ⟨512 * (c.val / 8) + i.val, by omega⟩ rfl).trans (Cert.ReferenceIdeal.Value.product_apply _ _ _ _)).symm
  · exact θ_run_mono (Cert.ReferenceIdeal.Value.run (F := Ideal) m' g') fun _ h => h 0

theorem claim : Cert.Claim :=
  ⟨Cert.Kernel.Gen.facts, Cert.KernelIdeal.Gen.facts, Cert.ReferenceIdeal.Gen.facts,
    frame_kernel, frame_kernelIdeal, frame_reference, trivial, value⟩

end Cert.Proof

end
